-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v2_0) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v2_1) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x8192 : Shape := ⟨3, ![8, 1, 8192]⟩
abbrev S8x1x4x128 : Shape := ⟨4, ![8, 1, 4, 128]⟩
abbrev S8x8192x4x128 : Shape := ⟨4, ![8, 8192, 4, 128]⟩
abbrev S4 : Shape := ⟨1, ![4]⟩
abbrev S8x64x128 : Shape := ⟨3, ![8, 64, 128]⟩
abbrev S8x32768x128 : Shape := ⟨3, ![8, 32768, 128]⟩
abbrev S8x4x128 : Shape := ⟨3, ![8, 4, 128]⟩
abbrev S4x1 : Shape := ⟨2, ![4, 1]⟩
abbrev S1x4 : Shape := ⟨2, ![1, 4]⟩
abbrev S8x4 : Shape := ⟨2, ![8, 4]⟩
abbrev S32 : Shape := ⟨1, ![32]⟩
abbrev S32x1 : Shape := ⟨2, ![32, 1]⟩
abbrev S32x128 : Shape := ⟨2, ![32, 128]⟩
abbrev S1x64x128 : Shape := ⟨3, ![1, 64, 128]⟩
abbrev S1x4x128 : Shape := ⟨3, ![1, 4, 128]⟩
abbrev S1x8192x128 : Shape := ⟨3, ![1, 8192, 128]⟩
abbrev S64x1 : Shape := ⟨2, ![64, 1]⟩
abbrev S64x128 : Shape := ⟨2, ![64, 128]⟩
abbrev S64x1024 : Shape := ⟨2, ![64, 1024]⟩
abbrev S1x32x128 : Shape := ⟨3, ![1, 32, 128]⟩
abbrev S32x32x128 : Shape := ⟨3, ![32, 32, 128]⟩
abbrev S1024x128 : Shape := ⟨2, ![1024, 128]⟩
abbrev S1x1024x128 : Shape := ⟨3, ![1, 1024, 128]⟩
abbrev S64 : Shape := ⟨1, ![64]⟩
abbrev S4x128 : Shape := ⟨2, ![4, 128]⟩
abbrev S4x1x128 : Shape := ⟨3, ![4, 1, 128]⟩
abbrev S4x16x128 : Shape := ⟨3, ![4, 16, 128]⟩

abbrev nBuf : Space → Nat
  | .hbm => 32
  | .vmem => 23
  | .smem => 0
  | _ => 0

abbrev bufTy : (tb : Table) → Fin (tcTables nBuf tb) → BufTy
  | .hbm, ⟨0, _⟩ => ⟨S8x1x8192, .bf16⟩
  | .hbm, ⟨1, _⟩ => ⟨S8x1x4x128, .bf16⟩
  | .hbm, ⟨2, _⟩ => ⟨S8x1x4x128, .bf16⟩
  | .hbm, ⟨3, _⟩ => ⟨S8x8192x4x128, .fp8e4m3⟩
  | .hbm, ⟨4, _⟩ => ⟨S4, .f32⟩
  | .hbm, ⟨5, _⟩ => ⟨S8x8192x4x128, .fp8e4m3⟩
  | .hbm, ⟨6, _⟩ => ⟨S4, .f32⟩
  | .hbm, ⟨7, _⟩ => ⟨S8x64x128, .bf16⟩
  | .hbm, ⟨8, _⟩ => ⟨S8x32768x128, .fp8e4m3⟩
  | .hbm, ⟨9, _⟩ => ⟨S8x32768x128, .fp8e4m3⟩
  | .hbm, ⟨10, _⟩ => ⟨S8x4x128, .bf16⟩
  | .hbm, ⟨11, _⟩ => ⟨S8x4x128, .bf16⟩
  | .hbm, ⟨12, _⟩ => ⟨S4x1, .f32⟩
  | .hbm, ⟨13, _⟩ => ⟨S4x1, .f32⟩
  | .hbm, ⟨14, _⟩ => ⟨S4, .bf16⟩
  | .hbm, ⟨15, _⟩ => ⟨S1x4, .bf16⟩
  | .hbm, ⟨16, _⟩ => ⟨S8x4, .bf16⟩
  | .hbm, ⟨17, _⟩ => ⟨S32, .bf16⟩
  | .hbm, ⟨18, _⟩ => ⟨S32x1, .bf16⟩
  | .hbm, ⟨19, _⟩ => ⟨S32x128, .bf16⟩
  | .hbm, ⟨20, _⟩ => ⟨S4, .bf16⟩
  | .hbm, ⟨21, _⟩ => ⟨S1x4, .bf16⟩
  | .hbm, ⟨22, _⟩ => ⟨S8x4, .bf16⟩
  | .hbm, ⟨23, _⟩ => ⟨S32, .bf16⟩
  | .hbm, ⟨24, _⟩ => ⟨S32x1, .bf16⟩
  | .hbm, ⟨25, _⟩ => ⟨S32x128, .bf16⟩
  | .hbm, ⟨26, _⟩ => ⟨S8x64x128, .bf16⟩
  | .hbm, ⟨27, _⟩ => ⟨S8x4x128, .fp8e4m3⟩
  | .hbm, ⟨28, _⟩ => ⟨S8x4x128, .fp8e4m3⟩
  | .hbm, ⟨29, _⟩ => ⟨S8x1x8192, .bf16⟩
  | .hbm, ⟨30, _⟩ => ⟨S8x1x4x128, .fp8e4m3⟩
  | .hbm, ⟨31, _⟩ => ⟨S8x1x4x128, .fp8e4m3⟩
  | .local _ .vmem, ⟨0, _⟩ => ⟨S1x64x128, .bf16⟩
  | .local _ .vmem, ⟨1, _⟩ => ⟨S1x64x128, .bf16⟩
  | .local _ .vmem, ⟨2, _⟩ => ⟨S1x4x128, .bf16⟩
  | .local _ .vmem, ⟨3, _⟩ => ⟨S1x4x128, .bf16⟩
  | .local _ .vmem, ⟨4, _⟩ => ⟨S1x4x128, .bf16⟩
  | .local _ .vmem, ⟨5, _⟩ => ⟨S1x4x128, .bf16⟩
  | .local _ .vmem, ⟨6, _⟩ => ⟨S1x8192x128, .fp8e4m3⟩
  | .local _ .vmem, ⟨7, _⟩ => ⟨S1x8192x128, .fp8e4m3⟩
  | .local _ .vmem, ⟨8, _⟩ => ⟨S1x8192x128, .fp8e4m3⟩
  | .local _ .vmem, ⟨9, _⟩ => ⟨S1x8192x128, .fp8e4m3⟩
  | .local _ .vmem, ⟨10, _⟩ => ⟨S4x1, .f32⟩
  | .local _ .vmem, ⟨11, _⟩ => ⟨S4x1, .f32⟩
  | .local _ .vmem, ⟨12, _⟩ => ⟨S32x128, .bf16⟩
  | .local _ .vmem, ⟨13, _⟩ => ⟨S32x128, .bf16⟩
  | .local _ .vmem, ⟨14, _⟩ => ⟨S1x64x128, .bf16⟩
  | .local _ .vmem, ⟨15, _⟩ => ⟨S1x64x128, .bf16⟩
  | .local _ .vmem, ⟨16, _⟩ => ⟨S1x4x128, .fp8e4m3⟩
  | .local _ .vmem, ⟨17, _⟩ => ⟨S1x4x128, .fp8e4m3⟩
  | .local _ .vmem, ⟨18, _⟩ => ⟨S1x4x128, .fp8e4m3⟩
  | .local _ .vmem, ⟨19, _⟩ => ⟨S1x4x128, .fp8e4m3⟩
  | .local _ .vmem, ⟨20, _⟩ => ⟨S64x1, .f32⟩
  | .local _ .vmem, ⟨21, _⟩ => ⟨S64x1, .f32⟩
  | .local _ .vmem, ⟨22, _⟩ => ⟨S64x128, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v396 : BitVec 1 := Scalar.cmpi .eq arg1 c3_i32
  let v397 : BitVec 32 := Scalar.extui v396
  let c0_i32_201 : BitVec 32 := 0#32
  let v398 : BitVec 1 := Scalar.cmpi .ne v397 c0_i32_201
  v398

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8x1x8192 : Shape := ⟨3, ![8, 1, 8192]⟩
abbrev S8x1x4x128 : Shape := ⟨4, ![8, 1, 4, 128]⟩
abbrev S8x8192x4x128 : Shape := ⟨4, ![8, 8192, 4, 128]⟩
abbrev S4 : Shape := ⟨1, ![4]⟩
abbrev S1x1x4x1 : Shape := ⟨4, ![1, 1, 4, 1]⟩
abbrev S8x8193x4x128 : Shape := ⟨4, ![8, 8193, 4, 128]⟩
abbrev S8x4x16x128 : Shape := ⟨4, ![8, 4, 16, 128]⟩
abbrev S8x4x16x8193 : Shape := ⟨4, ![8, 4, 16, 8193]⟩
abbrev S_ : Shape := ⟨0, ![]⟩
abbrev S8x4x16 : Shape := ⟨3, ![8, 4, 16]⟩
abbrev S8x4x16x1 : Shape := ⟨4, ![8, 4, 16, 1]⟩

abbrev nBuf : Space → Nat
  | .hbm => 37
  | .vmem => 12
  | .smem => 0
  | _ => 0

abbrev bufTy : (tb : Table) → Fin (tcTables nBuf tb) → BufTy
  | .hbm, ⟨0, _⟩ => ⟨S8x1x8192, .bf16⟩
  | .hbm, ⟨1, _⟩ => ⟨S8x1x4x128, .bf16⟩
  | .hbm, ⟨2, _⟩ => ⟨S8x1x4x128, .bf16⟩
  | .hbm, ⟨3, _⟩ => ⟨S8x8192x4x128, .fp8e4m3⟩
  | .hbm, ⟨4, _⟩ => ⟨S4, .f32⟩
  | .hbm, ⟨5, _⟩ => ⟨S8x8192x4x128, .fp8e4m3⟩
  | .hbm, ⟨6, _⟩ => ⟨S4, .f32⟩
  | .hbm, ⟨7, _⟩ => ⟨S1x1x4x1, .f32⟩
  | .hbm, ⟨8, _⟩ => ⟨S1x1x4x1, .f32⟩
  | .hbm, ⟨9, _⟩ => ⟨S8x1x4x128, .fp8e4m3⟩
  | .hbm, ⟨10, _⟩ => ⟨S8x1x4x128, .fp8e4m3⟩
  | .hbm, ⟨11, _⟩ => ⟨S8x1x4x128, .bf16⟩
  | .hbm, ⟨12, _⟩ => ⟨S8x1x4x128, .bf16⟩
  | .hbm, ⟨13, _⟩ => ⟨S8x8192x4x128, .bf16⟩
  | .hbm, ⟨14, _⟩ => ⟨S8x8192x4x128, .bf16⟩
  | .hbm, ⟨15, _⟩ => ⟨S8x8193x4x128, .bf16⟩
  | .hbm, ⟨16, _⟩ => ⟨S8x8193x4x128, .bf16⟩
  | .hbm, ⟨17, _⟩ => ⟨S8x4x16x128, .bf16⟩
  | .hbm, ⟨18, _⟩ => ⟨S8x4x16x8193, .f32⟩
  | .hbm, ⟨19, _⟩ => ⟨S_, .f32⟩
  | .hbm, ⟨20, _⟩ => ⟨S8x4x16x8193, .f32⟩
  | .hbm, ⟨21, _⟩ => ⟨S8x4x16x8193, .f32⟩
  | .hbm, ⟨22, _⟩ => ⟨S_, .f32⟩
  | .hbm, ⟨23, _⟩ => ⟨S8x4x16, .f32⟩
  | .hbm, ⟨24, _⟩ => ⟨S8x4x16x1, .f32⟩
  | .hbm, ⟨25, _⟩ => ⟨S8x4x16x8193, .f32⟩
  | .hbm, ⟨26, _⟩ => ⟨S8x4x16x8193, .f32⟩
  | .hbm, ⟨27, _⟩ => ⟨S8x4x16x8193, .f32⟩
  | .hbm, ⟨28, _⟩ => ⟨S8x4x16x8193, .bf16⟩
  | .hbm, ⟨29, _⟩ => ⟨S8x4x16x128, .f32⟩
  | .hbm, ⟨30, _⟩ => ⟨S_, .f32⟩
  | .hbm, ⟨31, _⟩ => ⟨S8x4x16, .f32⟩
  | .hbm, ⟨32, _⟩ => ⟨S8x4x16x1, .f32⟩
  | .hbm, ⟨33, _⟩ => ⟨S8x4x16x128, .f32⟩
  | .hbm, ⟨34, _⟩ => ⟨S8x4x16x128, .f32⟩
  | .hbm, ⟨35, _⟩ => ⟨S8x1x8192, .f32⟩
  | .hbm, ⟨36, _⟩ => ⟨S8x1x8192, .bf16⟩
  | .local _ .vmem, ⟨0, _⟩ => ⟨S8x1x4x128, .bf16⟩
  | .local _ .vmem, ⟨1, _⟩ => ⟨S8x1x4x128, .bf16⟩
  | .local _ .vmem, ⟨2, _⟩ => ⟨S8x8192x4x128, .fp8e4m3⟩
  | .local _ .vmem, ⟨3, _⟩ => ⟨S8x8192x4x128, .fp8e4m3⟩
  | .local _ .vmem, ⟨4, _⟩ => ⟨S1x1x4x1, .f32⟩
  | .local _ .vmem, ⟨5, _⟩ => ⟨S1x1x4x1, .f32⟩
  | .local _ .vmem, ⟨6, _⟩ => ⟨S8x1x4x128, .fp8e4m3⟩
  | .local _ .vmem, ⟨7, _⟩ => ⟨S8x1x4x128, .fp8e4m3⟩
  | .local _ .vmem, ⟨8, _⟩ => ⟨S8x1x4x128, .bf16⟩
  | .local _ .vmem, ⟨9, _⟩ => ⟨S8x1x4x128, .bf16⟩
  | .local _ .vmem, ⟨10, _⟩ => ⟨S8x8192x4x128, .bf16⟩
  | .local _ .vmem, ⟨11, _⟩ => ⟨S8x8192x4x128, .bf16⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x1x4x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x4x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x4x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x4x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x4x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x4x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x4x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x8192x4x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x8192x4x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Body.lean ====
/- What one grid point's body leaves in the scratch it carries: eight chunk steps of one and the same function.

   The printed body names its intermediate values chunk by chunk (`Gen.k0_payN`); every chunk computes the same
   terms, so each printed chain of stores and loads is definitionally the chain of `step`s below. -/
module

public import proofs.«01_k».proof.Proof.Gen.KernelIdeal.Frame
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.KernelIdeal.Body
open Cert.KernelIdeal Cert.KernelIdeal.Gen

variable {F : FTy → Type} [FloatOps F]

/-- What the kernel carries from chunk to chunk: the running maximum, denominator and numerator of each head. -/
structure St (F : FTy → Type) where
  /-- the running maximum -/
  m : Vec F S64x1 .f32
  /-- the running denominator -/
  l : Vec F S64x1 .f32
  /-- the running numerator -/
  a : Vec F S64x128 .f32

/-- Which rows of a chunk belong to which head. -/
def own : IVec S64x1024 1 := k0_pay19 k0_pay15 4#32 k0_pay16 k0_pay17 k0_pay18 0#32

/-- A chunk's masked scores. -/
def score (q : Vec F S1x64x128 .bf16) (ks : Vec F S32x128 .bf16) (kc : Vec F S1x1024x128 .fp8e4m3) : FVec F S64x1024 .f32 :=
  k0_pay31 (k0_pay14 q) own (k0_pay20 ks) kc

/-- A chunk's values, dequantised. -/
def vals (vs : Vec F S32x128 .bf16) (vc : Vec F S1x1024x128 .fp8e4m3) : FVec F S1024x128 .bf16 :=
  k0_pay30 (k0_pay21 vs) vc

/-- One chunk: the scores `s` and the values `v` folded into what is carried. -/
def step (s : FVec F S64x1024 .f32) (v : FVec F S1024x128 .bf16) (st : St F) : St F where
  m := k0_pay37 s st.m
  l := k0_pay35 s st.m st.l
  a := k0_pay36 v s st.m st.a

/-- Chunk `n` of a block of 8192 rows. -/
def chunk (n : Nat) (h : ∀ a, (![0, n, 0] : Fin 3 → Nat) a + S1x1024x128.size a ≤ S1x8192x128.size a)
    (x : Vec F S1x8192x128 .fp8e4m3) : Vec F S1x1024x128 .fp8e4m3 :=
  View.ld x (Rect.unit (s := S1x8192x128) ![0, n, 0] S1x1024x128.size h)

/-- One grid point's eight chunks. -/
def sweep (q : Vec F S1x64x128 .bf16) (kb vb : Vec F S1x8192x128 .fp8e4m3) (ks vs : Vec F S32x128 .bf16) (st : St F) : St F :=
  step (score q ks (chunk 7168 inb_S1x8192x128_S1x1024x128_0_7168_0 kb)) (vals vs (chunk 7168 inb_S1x8192x128_S1x1024x128_0_7168_0 vb)) <|
  step (score q ks (chunk 6144 inb_S1x8192x128_S1x1024x128_0_6144_0 kb)) (vals vs (chunk 6144 inb_S1x8192x128_S1x1024x128_0_6144_0 vb)) <|
  step (score q ks (chunk 5120 inb_S1x8192x128_S1x1024x128_0_5120_0 kb)) (vals vs (chunk 5120 inb_S1x8192x128_S1x1024x128_0_5120_0 vb)) <|
  step (score q ks (chunk 4096 inb_S1x8192x128_S1x1024x128_0_4096_0 kb)) (vals vs (chunk 4096 inb_S1x8192x128_S1x1024x128_0_4096_0 vb)) <|
  step (score q ks (chunk 3072 inb_S1x8192x128_S1x1024x128_0_3072_0 kb)) (vals vs (chunk 3072 inb_S1x8192x128_S1x1024x128_0_3072_0 vb)) <|
  step (score q ks (chunk 2048 inb_S1x8192x128_S1x1024x128_0_2048_0 kb)) (vals vs (chunk 2048 inb_S1x8192x128_S1x1024x128_0_2048_0 vb)) <|
  step (score q ks (chunk 1024 inb_S1x8192x128_S1x1024x128_0_1024_0 kb)) (vals vs (chunk 1024 inb_S1x8192x128_S1x1024x128_0_1024_0 vb)) <|
  step (score q ks (chunk 0 inb_S1x8192x128_S1x1024x128_0_0_0 kb)) (vals vs (chunk 0 inb_S1x8192x128_S1x1024x128_0_0_0 vb)) st

/-- What a batch starts from. -/
def start : St F := ⟨k0_pay11, k0_pay12, k0_pay13⟩

/-- What is written for a batch: the last update with the new key and value, then the quotient. -/
def finish (q : Vec F S1x64x128 .bf16) (kn vn : Vec F S1x4x128 .bf16) (ks vs : Vec F S4x1 .f32) (st : St F) :
    Vec F S1x64x128 .bf16 :=
  k0_pay10 (k0_pay14 q) (k0_pay6 vn vs) (k0_pay9 kn ks ks) vs st.m st.l st.a

variable (m : (ℓ : Loc nD τ sig) → Buf (Elt F) ℓ)

/-- What is carried out of grid point `n`. -/
def stAt (c : Dev nD) (n : Nat) (hn : n < cfg0.N) : St F :=
  ⟨(outsAt0 m c n hn).2.2.2.1, (outsAt0 m c n hn).2.2.2.2.1, (outsAt0 m c n hn).2.2.2.2.2⟩

/-- Grid point `t`'s sweep, over its blocks. -/
def sweepAt (c : Dev nD) (t : Fin cfg0.N) (st : St F) : St F :=
  sweep (iblk m c 0 t) (iblk m c 3 t) (iblk m c 4 t) (iblk m c 7 t) (iblk m c 8 t) st

theorem St.ext' {x y : St F} (h1 : x.m = y.m) (h2 : x.l = y.l) (h3 : x.a = y.a) : x = y := by
  cases x; cases y; simp only at h1 h2 h3; subst h1 h2 h3; rfl

theorem stA_m (c : Dev nD) (t : Fin cfg0.N) (h0 : t.val % 4 = 0) (h1 : ¬t.val % 4 = 3) :
    (outsAt0 m c t.val t.isLt).2.2.2.1 = (sweepAt m c t start).m := by
  rw [outsAt0_A m c t h0 h1]
  frame_open
  simp (disch := decide) only [↓ View.readCov_skip, ↓ View.readCov_cons_toLoadRect, ↓ View.readCov_fill]
  frame_out
  try simp only [read_unread_whole]
  rfl

theorem stA_l (c : Dev nD) (t : Fin cfg0.N) (h0 : t.val % 4 = 0) (h1 : ¬t.val % 4 = 3) :
    (outsAt0 m c t.val t.isLt).2.2.2.2.1 = (sweepAt m c t start).l := by
  rw [outsAt0_A m c t h0 h1]
  frame_open
  simp (disch := decide) only [↓ View.readCov_skip, ↓ View.readCov_cons_toLoadRect, ↓ View.readCov_fill]
  frame_out
  try simp only [read_unread_whole]
  rfl

theorem stA_a (c : Dev nD) (t : Fin cfg0.N) (h0 : t.val % 4 = 0) (h1 : ¬t.val % 4 = 3) :
    (outsAt0 m c t.val t.isLt).2.2.2.2.2 = (sweepAt m c t start).a := by
  rw [outsAt0_A m c t h0 h1]
  frame_open
  simp (disch := decide) only [↓ View.readCov_skip, ↓ View.readCov_cons_toLoadRect, ↓ View.readCov_fill]
  frame_out
  try simp only [read_unread_whole]
  rfl

/-- Case A: what is carried out of the point. -/
theorem stAt_A (c : Dev nD) (t : Fin cfg0.N) (h0 : t.val % 4 = 0) (h1 : ¬t.val % 4 = 3) :
    stAt m c t.val t.isLt = sweepAt m c t start :=
  St.ext' (stA_m m c t h0 h1) (stA_l m c t h0 h1) (stA_a m c t h0 h1)

theorem stB_m (c : Dev nD) (t : Fin cfg0.N) (h0 : ¬t.val % 4 = 0) (h1 : ¬t.val % 4 = 3) :
    (outsAt0 m c t.val t.isLt).2.2.2.1 = (sweepAt m c t (stAt m c (t.val - 1) (Nat.lt_of_le_of_lt (Nat.sub_le _ _) t.isLt))).m := by
  rw [outsAt0_B m c t h0 h1]
  frame_open
  simp (disch := decide) only [↓ View.readCov_skip, ↓ View.readCov_cons_toLoadRect, ↓ View.readCov_fill]
  frame_out
  try simp only [read_unread_whole]
  rfl

theorem stB_l (c : Dev nD) (t : Fin cfg0.N) (h0 : ¬t.val % 4 = 0) (h1 : ¬t.val % 4 = 3) :
    (outsAt0 m c t.val t.isLt).2.2.2.2.1 = (sweepAt m c t (stAt m c (t.val - 1) (Nat.lt_of_le_of_lt (Nat.sub_le _ _) t.isLt))).l := by
  rw [outsAt0_B m c t h0 h1]
  frame_open
  simp (disch := decide) only [↓ View.readCov_skip, ↓ View.readCov_cons_toLoadRect, ↓ View.readCov_fill]
  frame_out
  try simp only [read_unread_whole]
  rfl

theorem stB_a (c : Dev nD) (t : Fin cfg0.N) (h0 : ¬t.val % 4 = 0) (h1 : ¬t.val % 4 = 3) :
    (outsAt0 m c t.val t.isLt).2.2.2.2.2 = (sweepAt m c t (stAt m c (t.val - 1) (Nat.lt_of_le_of_lt (Nat.sub_le _ _) t.isLt))).a := by
  rw [outsAt0_B m c t h0 h1]
  frame_open
  simp (disch := decide) only [↓ View.readCov_skip, ↓ View.readCov_cons_toLoadRect, ↓ View.readCov_fill]
  frame_out
  try simp only [read_unread_whole]
  rfl

/-- Case B: what is carried out of the point. -/
theorem stAt_B (c : Dev nD) (t : Fin cfg0.N) (h0 : ¬t.val % 4 = 0) (h1 : ¬t.val % 4 = 3) :
    stAt m c t.val t.isLt = sweepAt m c t (stAt m c (t.val - 1) (Nat.lt_of_le_of_lt (Nat.sub_le _ _) t.isLt)) :=
  St.ext' (stB_m m c t h0 h1) (stB_l m c t h0 h1) (stB_a m c t h0 h1)

theorem stC_m (c : Dev nD) (t : Fin cfg0.N) (h0 : ¬t.val % 4 = 0) (h1 : t.val % 4 = 3) :
    (outsAt0 m c t.val t.isLt).2.2.2.1 = (sweepAt m c t (stAt m c (t.val - 1) (Nat.lt_of_le_of_lt (Nat.sub_le _ _) t.isLt))).m := by
  rw [outsAt0_C m c t h0 h1]
  frame_open
  simp (disch := decide) only [↓ View.readCov_skip, ↓ View.readCov_cons_toLoadRect, ↓ View.readCov_fill]
  frame_out
  try simp only [read_unread_whole]
  rfl

theorem stC_l (c : Dev nD) (t : Fin cfg0.N) (h0 : ¬t.val % 4 = 0) (h1 : t.val % 4 = 3) :
    (outsAt0 m c t.val t.isLt).2.2.2.2.1 = (sweepAt m c t (stAt m c (t.val - 1) (Nat.lt_of_le_of_lt (Nat.sub_le _ _) t.isLt))).l := by
  rw [outsAt0_C m c t h0 h1]
  frame_open
  simp (disch := decide) only [↓ View.readCov_skip, ↓ View.readCov_cons_toLoadRect, ↓ View.readCov_fill]
  frame_out
  try simp only [read_unread_whole]
  rfl

theorem stC_a (c : Dev nD) (t : Fin cfg0.N) (h0 : ¬t.val % 4 = 0) (h1 : t.val % 4 = 3) :
    (outsAt0 m c t.val t.isLt).2.2.2.2.2 = (sweepAt m c t (stAt m c (t.val - 1) (Nat.lt_of_le_of_lt (Nat.sub_le _ _) t.isLt))).a := by
  rw [outsAt0_C m c t h0 h1]
  frame_open
  simp (disch := decide) only [↓ View.readCov_skip, ↓ View.readCov_cons_toLoadRect, ↓ View.readCov_fill]
  frame_out
  try simp only [read_unread_whole]
  rfl

/-- Case C: what is carried out of the point. -/
theorem stAt_C (c : Dev nD) (t : Fin cfg0.N) (h0 : ¬t.val % 4 = 0) (h1 : t.val % 4 = 3) :
    stAt m c t.val t.isLt = sweepAt m c t (stAt m c (t.val - 1) (Nat.lt_of_le_of_lt (Nat.sub_le _ _) t.isLt)) :=
  St.ext' (stC_m m c t h0 h1) (stC_l m c t h0 h1) (stC_a m c t h0 h1)

/-- What is written back of the result at a batch's last point. -/
theorem out9_C (c : Dev nD) (t : Fin cfg0.N) (h0 : ¬t.val % 4 = 0) (h1 : t.val % 4 = 3) :
    (outsAt0 m c t.val t.isLt).1 = finish (iblk m c 0 t) (iblk m c 1 t) (iblk m c 2 t) (iblk m c 5 t) (iblk m c 6 t) (stAt m c t.val t.isLt) := by
  rw [stAt_C m c t h0 h1, outsAt0_C m c t h0 h1]
  frame_open
  simp (disch := decide) only [↓ View.readCov_skip, ↓ View.readCov_cons_toLoadRect, ↓ View.readCov_fill]
  frame_out
  try simp only [read_unread_whole]
  rfl

/-- What is written back of the new key's codes. -/
theorem out10_C (c : Dev nD) (t : Fin cfg0.N) (h0 : ¬t.val % 4 = 0) (h1 : t.val % 4 = 3) :
    (outsAt0 m c t.val t.isLt).2.1 = k0_pay7 (iblk m c 1 t) (iblk m c 5 t) := by
  rw [outsAt0_C m c t h0 h1]
  frame_open
  simp (disch := decide) only [↓ View.readCov_skip, ↓ View.readCov_cons_toLoadRect, ↓ View.readCov_fill]
  frame_out

/-- What is written back of the new value's codes. -/
theorem out11_C (c : Dev nD) (t : Fin cfg0.N) (h0 : ¬t.val % 4 = 0) (h1 : t.val % 4 = 3) :
    (outsAt0 m c t.val t.isLt).2.2.1 = k0_pay8 (iblk m c 2 t) (iblk m c 6 t) := by
  rw [outsAt0_C m c t h0 h1]
  frame_open
  simp (disch := decide) only [↓ View.readCov_skip, ↓ View.readCov_cons_toLoadRect, ↓ View.readCov_fill]
  frame_out

end Cert.KernelIdeal.Body

end
-- ==== Proof.Softmax.lean ====
/- The online softmax over the extended reals.

   A sweep that keeps a running maximum, a running denominator and a running numerator, and rescales the two sums
   whenever the maximum grows, ends with the numbers of the softmax taken in one go. Over the extended reals this
   holds at every input, the infinities included: the factor of a rescaling is a real number between 0 and 1, so it
   distributes over any sum, and a score of −∞ contributes 0 whatever the maximum is. -/
module

public import Idealize.ShloMosaic.PureOps.Ideal

@[expose] public section

noncomputable section

namespace Cert.Softmax

open Idealize.ShloMosaic
open scoped BigOperators

theorem exp_bot : Ideal.exp (⊥ : EReal) = 0 := rfl

theorem exp_coe (r : ℝ) : Ideal.exp (r : EReal) = ((Real.exp r : ℝ) : EReal) := rfl

theorem exp_nonneg (x : EReal) : 0 ≤ Ideal.exp x := by
  induction x with
  | bot => exact le_refl _
  | top => exact le_top
  | coe r => rw [exp_coe]; exact_mod_cast (Real.exp_pos r).le

/-- Below its maximum a score's exponential is finite. -/
theorem exp_sub_ne_top {s b : EReal} (h : s ≤ b) : Ideal.exp (s - b) ≠ ⊤ := by
  induction b with
  | bot =>
    obtain rfl := le_bot_iff.mp h
    rw [show (⊥ : EReal) - ⊥ = ⊥ from rfl, exp_bot]; exact EReal.zero_ne_top
  | top =>
    rw [show s - (⊤ : EReal) = ⊥ by rw [sub_eq_add_neg, EReal.neg_top, EReal.add_bot], exp_bot]; exact EReal.zero_ne_top
  | coe b =>
    induction s with
    | bot => rw [EReal.bot_sub, exp_bot]; exact EReal.zero_ne_top
    | top => exact absurd (top_le_iff.mp h) (EReal.coe_ne_top b)
    | coe s => rw [← EReal.coe_sub, exp_coe]; exact EReal.coe_ne_top _

/-- A score of −∞ contributes nothing. -/
theorem exp_bot_sub (b : EReal) : Ideal.exp (⊥ - b) = 0 := by rw [EReal.bot_sub, exp_bot]

/-- Rescaling a term from one maximum to a later one. -/
theorem exp_mul_exp {s a b : EReal} (hs : s ≤ a) (hab : a ≤ b) : Ideal.exp (s - a) * Ideal.exp (a - b) = Ideal.exp (s - b) := by
  induction b with
  | bot =>
    obtain rfl := le_bot_iff.mp hab
    obtain rfl := le_bot_iff.mp hs
    rw [show (⊥ : EReal) - ⊥ = ⊥ from rfl, exp_bot, mul_zero]
  | top =>
    have h : ∀ x : EReal, x - ⊤ = ⊥ := fun x => by rw [sub_eq_add_neg, EReal.neg_top, EReal.add_bot]
    rw [h, h, exp_bot, mul_zero]
  | coe b =>
    induction a with
    | bot =>
      obtain rfl := le_bot_iff.mp hs
      rw [EReal.bot_sub, EReal.bot_sub, exp_bot, mul_zero]
    | top => exact absurd (top_le_iff.mp hab) (EReal.coe_ne_top b)
    | coe a =>
      induction s with
      | bot => rw [EReal.bot_sub, EReal.bot_sub, exp_bot, zero_mul]
      | top => exact absurd (top_le_iff.mp hs) (EReal.coe_ne_top a)
      | coe s =>
        rw [← EReal.coe_sub, ← EReal.coe_sub, ← EReal.coe_sub, exp_coe, exp_coe, exp_coe, ← EReal.coe_mul, ← Real.exp_add]
        congr 2; ring

/-- A nonnegative finite factor distributes over a sum. -/
theorem sum_mul_of_nonneg {ι : Type*} (A : Finset ι) (f : ι → EReal) {c : EReal} (h0 : 0 ≤ c) (h1 : c ≠ ⊤) :
    (∑ i ∈ A, f i) * c = ∑ i ∈ A, f i * c := by
  classical
  induction A using Finset.induction_on with
  | empty => simp
  | insert a A ha ih =>
    rw [Finset.sum_insert ha, Finset.sum_insert ha, EReal.right_distrib_of_nonneg_of_ne_top h0 h1, ih]

/-! ## The running maximum, denominator and numerator over the first `n` keys -/

/-- The greatest of the first `n` scores. -/
def top (s : ℕ → EReal) (n : ℕ) : EReal := (Finset.range n).sup s
/-- The softmax's denominator over the first `n` keys. -/
def den (s : ℕ → EReal) (n : ℕ) : EReal := ∑ i ∈ Finset.range n, Ideal.exp (s i - top s n)
/-- The softmax's numerator over the first `n` keys, against the values `v`. -/
def num (s v : ℕ → EReal) (n : ℕ) : EReal := ∑ i ∈ Finset.range n, Ideal.exp (s i - top s n) * v i

theorem top_zero (s : ℕ → EReal) : top s 0 = ⊥ := rfl
theorem den_zero (s : ℕ → EReal) : den s 0 = 0 := rfl
theorem num_zero (s v : ℕ → EReal) : num s v 0 = 0 := rfl

theorem le_top' {s : ℕ → EReal} {n i : ℕ} (h : i < n) : s i ≤ top s n := Finset.le_sup (Finset.mem_range.mpr h)

theorem den_rescale (s : ℕ → EReal) (n : ℕ) {b : EReal} (h : top s n ≤ b) :
    den s n * Ideal.exp (top s n - b) = ∑ i ∈ Finset.range n, Ideal.exp (s i - b) := by
  unfold den
  rw [sum_mul_of_nonneg _ _ (exp_nonneg _) (exp_sub_ne_top h)]
  exact Finset.sum_congr rfl fun i hi => exp_mul_exp (le_top' (Finset.mem_range.mp hi)) h

theorem num_rescale (s v : ℕ → EReal) (n : ℕ) {b : EReal} (h : top s n ≤ b) :
    num s v n * Ideal.exp (top s n - b) = ∑ i ∈ Finset.range n, Ideal.exp (s i - b) * v i := by
  unfold num
  rw [sum_mul_of_nonneg _ _ (exp_nonneg _) (exp_sub_ne_top h)]
  exact Finset.sum_congr rfl fun i hi => by
    rw [mul_right_comm, exp_mul_exp (le_top' (Finset.mem_range.mp hi)) h]

/-- The maximum after a further chunk of `k` keys. -/
theorem top_add (s : ℕ → EReal) (n k : ℕ) :
    top s (n + k) = max (top s n) ((Finset.univ : Finset (Fin k)).sup fun j => s (n + j.val)) := by
  apply le_antisymm
  · refine Finset.sup_le fun i hi => ?_
    rcases Nat.lt_or_ge i n with h | h
    · exact le_trans (le_top' h) (le_max_left _ _)
    · have hi' := Finset.mem_range.mp hi
      refine le_trans ?_ (le_max_right _ _)
      have := Finset.le_sup (f := fun j : Fin k => s (n + j.val)) (Finset.mem_univ (⟨i - n, by omega⟩ : Fin k))
      simpa [Nat.add_sub_of_le h] using this
  · refine max_le (Finset.sup_mono (Finset.range_mono (Nat.le_add_right _ _))) (Finset.sup_le fun j _ => ?_)
    exact le_top' (by have := j.isLt; omega)

/-- The denominator after a further chunk, in the sweep's own terms. -/
theorem den_add (s : ℕ → EReal) (n k : ℕ) :
    den s (n + k) = den s n * Ideal.exp (top s n - top s (n + k)) + ∑ j : Fin k, Ideal.exp (s (n + j.val) - top s (n + k)) := by
  rw [den_rescale s n (by rw [top_add]; exact le_max_left _ _), den, Finset.sum_range_add,
    Finset.sum_range (fun x => Ideal.exp (s (n + x) - top s (n + k)))]

/-- The numerator after a further chunk, in the sweep's own terms. -/
theorem num_add (s v : ℕ → EReal) (n k : ℕ) :
    num s v (n + k) = num s v n * Ideal.exp (top s n - top s (n + k))
      + ∑ j : Fin k, Ideal.exp (s (n + j.val) - top s (n + k)) * v (n + j.val) := by
  rw [num_rescale s v n (by rw [top_add]; exact le_max_left _ _), num, Finset.sum_range_add,
    Finset.sum_range (fun x => Ideal.exp (s (n + x) - top s (n + k)) * v (n + x))]

/-! ## Rows of four heads, of which one head's are kept -/

/-- A sum over `4 T` rows that vanishes off the rows of head `g` is the sum over those rows. -/
theorem sum_rows (f : ℕ → EReal) (g : ℕ) (hg : g < 4) (hf : ∀ r, r % 4 ≠ g → f r = 0) (T : ℕ) :
    ∑ r ∈ Finset.range (4 * T), f r = ∑ t : Fin T, f (4 * t.val + g) := by
  rw [← Finset.sum_range (fun t => f (4 * t + g))]
  induction T with
  | zero => rfl
  | succ T ih =>
    rw [Nat.mul_succ, Finset.sum_range_add, ih, Finset.sum_range_succ _ T]
    congr 1
    rw [Finset.sum_eq_single_of_mem g (Finset.mem_range.mpr hg)]
    intro j hj hne
    have := Finset.mem_range.mp hj
    exact hf _ (by omega)

/-- The greatest of `4 T` scores that are −∞ off the rows of head `g` is the greatest over those rows. -/
theorem top_rows (s : ℕ → EReal) (g : ℕ) (hg : g < 4) (hs : ∀ r, r % 4 ≠ g → s r = ⊥) (T : ℕ) :
    top s (4 * T) = (Finset.univ : Finset (Fin T)).sup fun t => s (4 * t.val + g) := by
  apply le_antisymm
  · refine Finset.sup_le fun r hr => ?_
    have hr' := Finset.mem_range.mp hr
    by_cases h : r % 4 = g
    · have := Finset.le_sup (f := fun t : Fin T => s (4 * t.val + g)) (Finset.mem_univ (⟨r / 4, by omega⟩ : Fin T))
      have hrr : 4 * (r / 4) + g = r := by omega
      simpa [hrr] using this
    · rw [hs r h]; exact bot_le
  · exact Finset.sup_le fun t _ => le_top' (by have := t.isLt; omega)

theorem sup_castSucc {T : ℕ} (S : Fin (T + 1) → EReal) :
    Finset.univ.sup S = max ((Finset.univ : Finset (Fin T)).sup fun t => S t.castSucc) (S (Fin.last T)) := by
  apply le_antisymm
  · refine Finset.sup_le fun i _ => ?_
    induction i using Fin.lastCases with
    | last => exact le_max_right _ _
    | cast i => exact le_trans (Finset.le_sup (f := fun t : Fin T => S t.castSucc) (Finset.mem_univ i)) (le_max_left _ _)
  · exact max_le (Finset.sup_le fun i _ => Finset.le_sup (Finset.mem_univ _)) (Finset.le_sup (Finset.mem_univ _))

/-! ## The sweep over the cache and the last update with the new key are the whole softmax -/

section Whole

variable {T : ℕ} (S V : Fin (T + 1) → EReal) (s v : ℕ → EReal) (g : ℕ) (hg : g < 4)
  (hs : ∀ r, r % 4 ≠ g → s r = ⊥) (hS : ∀ t : Fin T, s (4 * t.val + g) = S t.castSucc)
  (hV : ∀ t : Fin T, v (4 * t.val + g) = V t.castSucc)

include hg hs hS in
theorem whole_top : max (top s (4 * T)) (S (Fin.last T)) = Finset.univ.sup S := by
  rw [sup_castSucc, top_rows s g hg hs]
  congr 2; funext t; exact hS t

include hg hs hS in
theorem whole_den :
    den s (4 * T) * Ideal.exp (top s (4 * T) - Finset.univ.sup S) + Ideal.exp (S (Fin.last T) - Finset.univ.sup S)
      = ∑ t, Ideal.exp (S t - Finset.univ.sup S) := by
  rw [den_rescale s _ (by rw [← whole_top S s g hg hs hS]; exact le_max_left _ _),
    sum_rows _ g hg (fun r h => by rw [hs r h, exp_bot_sub]), Fin.sum_univ_castSucc]
  simp only [hS]

include hg hs hS hV in
theorem whole_num :
    num s v (4 * T) * Ideal.exp (top s (4 * T) - Finset.univ.sup S) + Ideal.exp (S (Fin.last T) - Finset.univ.sup S) * V (Fin.last T)
      = ∑ t, Ideal.exp (S t - Finset.univ.sup S) * V t := by
  rw [num_rescale s v _ (by rw [← whole_top S s g hg hs hS]; exact le_max_left _ _),
    sum_rows _ g hg (fun r h => by rw [hs r h, exp_bot_sub, zero_mul]), Fin.sum_univ_castSucc]
  simp only [hS, hV]

end Whole

end Cert.Softmax

end
-- ==== Proof.Spec.lean ====
module

public import proofs.«01_k».proof.Proof.Softmax

/-! What both programs compute, as a function of the arguments at coordinates. -/

@[expose] public section

noncomputable section

open Idealize.ShloMosaic
open scoped BigOperators

namespace Cert.Softmax

/-- The scores' factor `1 / sqrt 128`, as the program's single-precision word. -/
def scale : EReal := Ideal.ofBits FTy.f32 0x3DB504F3#32

/-- A value as its code: divided by the scale and clipped to the format's range. -/
def code (x s : EReal) : EReal :=
  min (Ideal.ofBits FTy.f32 0x43E00000#32) (max (Ideal.ofBits FTy.f32 0xC3E00000#32) (Ideal.div x s))

theorem ofBits_neg_inf : Ideal.ofBits FTy.f32 0xFF800000#32 = ⊥ := by simp [Ideal.ofBits, Ideal.ieee]

/-- A maximum folded from minus infinity is a supremum. -/
theorem fold_max {ι : Type} (A : Finset ι) (f : ι → EReal) :
    A.fold max (Ideal.ofBits FTy.f32 0xFF800000#32) f = A.sup f := by
  rw [ofBits_neg_inf]; rfl

/-- The arguments, at coordinates: the query by head and feature, the new key and value, the caches' codes, the scales. -/
structure Args where
  x : Fin 8 → Fin 64 → Fin 128 → EReal
  kn : Fin 8 → Fin 4 → Fin 128 → EReal
  vn : Fin 8 → Fin 4 → Fin 128 → EReal
  kc : Fin 8 → Fin 8192 → Fin 4 → Fin 128 → EReal
  vc : Fin 8 → Fin 8192 → Fin 4 → Fin 128 → EReal
  ks : Fin 4 → EReal
  vs : Fin 4 → EReal

namespace Args
variable (A : Args)

/-- Key `t` of the 8193: a cached one, or the new one through its code. -/
def key (b : Fin 8) (g : Fin 4) (t : Fin 8193) (d : Fin 128) : EReal :=
  if ht : t.val < 8192 then A.kc b ⟨t.val, ht⟩ g d * A.ks g else code (A.kn b g d) (A.ks g) * A.ks g

/-- Value `t` of the 8193. -/
def val (b : Fin 8) (g : Fin 4) (d : Fin 128) (t : Fin 8193) : EReal :=
  if ht : t.val < 8192 then A.vc b ⟨t.val, ht⟩ g d * A.vs g else code (A.vn b g d) (A.vs g) * A.vs g

/-- The score of key `t` for head `h`, whose keys are those of head `g`. -/
def score (b : Fin 8) (h : Fin 64) (g : Fin 4) (t : Fin 8193) : EReal := (∑ d, A.x b h d * A.key b g t d) * scale

/-- The attention's result. -/
def out (b : Fin 8) (h : Fin 64) (g : Fin 4) (d : Fin 128) : EReal :=
  Ideal.div (∑ t, Ideal.exp (A.score b h g t - Finset.univ.sup (A.score b h g)) * A.val b g d t)
    (∑ t, Ideal.exp (A.score b h g t - Finset.univ.sup (A.score b h g)))

/-- The row scores the kernel sweeps over: row `r` is token `r / 4`, head `r % 4`; the rows of other heads are masked. -/
def rowS (b : Fin 8) (h : Fin 64) (r : ℕ) : EReal :=
  if h.val / 16 = r % 4 then
    if hr : r / 4 < 8192 then
      (∑ d, A.x b h d * (A.kc b ⟨r / 4, hr⟩ ⟨r % 4, Nat.mod_lt _ (by decide)⟩ d * A.ks ⟨r % 4, Nat.mod_lt _ (by decide)⟩)) * scale
    else ⊥
  else ⊥

/-- The row values the kernel sweeps over. -/
def rowV (b : Fin 8) (d : Fin 128) (r : ℕ) : EReal :=
  if hr : r / 4 < 8192 then A.vc b ⟨r / 4, hr⟩ ⟨r % 4, Nat.mod_lt _ (by decide)⟩ d * A.vs ⟨r % 4, Nat.mod_lt _ (by decide)⟩ else 0

theorem rowS_masked (b : Fin 8) (h : Fin 64) (g : Fin 4) (hg : g.val = h.val / 16) (r : ℕ) (hr : r % 4 ≠ g.val) : A.rowS b h r = ⊥ :=
  if_neg (by omega)

theorem rowS_kept (b : Fin 8) (h : Fin 64) (g : Fin 4) (hg : g.val = h.val / 16) (t : Fin 8192) :
    A.rowS b h (4 * t.val + g.val) = A.score b h g t.castSucc := by
  have h1 : h.val / 16 = (4 * t.val + g.val) % 4 := by omega
  have h2 : (4 * t.val + g.val) / 4 < 8192 := by omega
  have e1 : (⟨(4 * t.val + g.val) / 4, h2⟩ : Fin 8192) = t := Fin.ext (by show (4 * t.val + g.val) / 4 = t.val; omega)
  have e2 : (⟨(4 * t.val + g.val) % 4, Nat.mod_lt _ (by decide)⟩ : Fin 4) = g := Fin.ext (by show (4 * t.val + g.val) % 4 = g.val; omega)
  unfold rowS score
  rw [if_pos h1, dif_pos h2]
  simp only [e1, e2]
  refine congrArg (· * scale) (Finset.sum_congr rfl fun d _ => ?_)
  rw [key, dif_pos (show t.castSucc.val < 8192 from t.isLt)]
  rfl

theorem rowV_kept (b : Fin 8) (g : Fin 4) (d : Fin 128) (t : Fin 8192) :
    A.rowV b d (4 * t.val + g.val) = A.val b g d t.castSucc := by
  have h2 : (4 * t.val + g.val) / 4 < 8192 := by omega
  have e1 : (⟨(4 * t.val + g.val) / 4, h2⟩ : Fin 8192) = t := Fin.ext (by show (4 * t.val + g.val) / 4 = t.val; omega)
  have e2 : (⟨(4 * t.val + g.val) % 4, Nat.mod_lt _ (by decide)⟩ : Fin 4) = g := Fin.ext (by show (4 * t.val + g.val) % 4 = g.val; omega)
  unfold rowV
  rw [dif_pos h2, val, dif_pos (show t.castSucc.val < 8192 from t.isLt)]
  simp only [e1, e2]
  rfl

theorem score_last (b : Fin 8) (h : Fin 64) (g : Fin 4) :
    A.score b h g (Fin.last 8192) = (∑ d, A.x b h d * (code (A.kn b g d) (A.ks g) * A.ks g)) * scale := by
  unfold score
  refine congrArg (· * scale) (Finset.sum_congr rfl fun d _ => ?_)
  rw [key, dif_neg (show ¬ (Fin.last 8192).val < 8192 from lt_irrefl _)]

theorem val_last (b : Fin 8) (g : Fin 4) (d : Fin 128) : A.val b g d (Fin.last 8192) = code (A.vn b g d) (A.vs g) * A.vs g := by
  rw [val, dif_neg (show ¬ (Fin.last 8192).val < 8192 from lt_irrefl _)]

/-- The sweep over the 32768 rows followed by the new key's update is the softmax over the 8193 keys. -/
theorem sweep_eq (b : Fin 8) (h : Fin 64) (g : Fin 4) (hg : g.val = h.val / 16) (d : Fin 128) (n : EReal) (hn : n = A.score b h g (Fin.last 8192)) :
    Ideal.div
      (num (A.rowS b h) (A.rowV b d) 32768 * Ideal.exp (top (A.rowS b h) 32768 - max (top (A.rowS b h) 32768) n)
        + Ideal.exp (n - max (top (A.rowS b h) 32768) n) * A.val b g d (Fin.last 8192))
      (den (A.rowS b h) 32768 * Ideal.exp (top (A.rowS b h) 32768 - max (top (A.rowS b h) 32768) n)
        + Ideal.exp (n - max (top (A.rowS b h) 32768) n)) = A.out b h g d := by
  subst hn
  have hs := A.rowS_masked b h g hg
  have hS := A.rowS_kept b h g hg
  have hV := fun t => A.rowV_kept b g d t
  rw [show (32768 : ℕ) = 4 * 8192 from rfl, whole_top (A.score b h g) (A.rowS b h) g.val g.isLt hs hS,
    whole_num (A.score b h g) (A.val b g d) (A.rowS b h) (A.rowV b d) g.val g.isLt hs hS hV,
    whole_den (A.score b h g) (A.rowS b h) g.val g.isLt hs hS]
  rfl

end Args

end Cert.Softmax

end
-- ==== Proof.StepRead.lean ====
module

public import proofs.«01_k».proof.Proof.Body
public import proofs.«01_k».proof.Proof.Spec
public import Idealize.ShloMosaic.Lib.Pointwise.TacticCore
public import Idealize.ShloMosaic.Lib.Pointwise
public import Idealize.ShloMosaic.Lib.ValueIdx
public import Idealize.ShloMosaic.PureOps.Ideal.Laws

/-! The parts of the kernel's body read at one index, over the extended reals. -/

@[expose] public section

set_option maxRecDepth 16384

noncomputable section

open Idealize.ShloMosaic Idealize.ShloMosaic.TcCoe Idealize.SL.Sem
open scoped BigOperators

namespace Cert.KernelIdeal.Body
open Cert.KernelIdeal Cert.KernelIdeal.Gen Cert.Softmax

/-! ## The mask -/

/-- The head a row of scores belongs to, as the program computes it. -/
def headWord (h : BitVec 32) : BitVec 32 :=
  Scalar.select
    (IntOp.andi
      (IntOp.cmpi CmpIPredicate.ne
        (IntOp.subi (BitVec.setWidth 32 (IntOp.cmpi CmpIPredicate.sgt h 0#32))
          (BitVec.setWidth 32 (IntOp.cmpi CmpIPredicate.slt h 0#32)))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector h 16#32) 0#32))
    (IntOp.subi (IntOp.divsi ArithUnit.vector h 16#32) 1#32)
    (IntOp.divsi ArithUnit.vector h 16#32)

/-- The head a row of the cache belongs to, as the program computes it. -/
def rowWord (j : BitVec 32) : BitVec 32 :=
  Scalar.select
    (IntOp.andi
      (IntOp.xori
        (IntOp.cmpi CmpIPredicate.slt
          (IntOp.remsi ArithUnit.vector j (Scalar.select (Scalar.cmpi CmpIPredicate.eq 4#32 0#32) 1#32 4#32)) 0#32)
        (Scalar.cmpi CmpIPredicate.slt 4#32 0#32))
      (IntOp.cmpi CmpIPredicate.ne
        (IntOp.remsi ArithUnit.vector j (Scalar.select (Scalar.cmpi CmpIPredicate.eq 4#32 0#32) 1#32 4#32)) 0#32))
    (IntOp.addi (IntOp.remsi ArithUnit.vector j (Scalar.select (Scalar.cmpi CmpIPredicate.eq 4#32 0#32) 1#32 4#32)) 4#32)
    (IntOp.remsi ArithUnit.vector j (Scalar.select (Scalar.cmpi CmpIPredicate.eq 4#32 0#32) 1#32 4#32))

theorem headWord_eq : ∀ h : Fin 64, headWord (BitVec.ofNat 32 h.val) = BitVec.ofNat 32 (h.val / 16) := by decide +kernel
theorem rowWord_eq : ∀ j : Fin 1024, rowWord (BitVec.ofNat 32 j.val) = BitVec.ofNat 32 (j.val % 4) := by decide +kernel
theorem word_eq : ∀ a b : Fin 4, IntOp.cmpi CmpIPredicate.eq (BitVec.ofNat 32 a.val) (BitVec.ofNat 32 b.val) = if a = b then 1#1 else 0#1 := by
  decide +kernel

theorem own_words (h : Fin 64) (j : Fin 1024) :
    own (ix2 h j) = IntOp.cmpi CmpIPredicate.eq (headWord (BitVec.ofNat 32 h.val)) (rowWord (BitVec.ofNat 32 j.val)) := by
  unfold own headWord rowWord
  pointwise [k0_pay19, k0_pay15, k0_pay16, k0_pay17, k0_pay18]

theorem own_apply (h : Fin 64) (j : Fin 1024) : own (ix2 h j) = if h.val / 16 = j.val % 4 then 1#1 else 0#1 := by
  rw [own_words, headWord_eq, rowWord_eq]
  have := word_eq ⟨h.val / 16, by have := h.isLt; omega⟩ ⟨j.val % 4, by omega⟩
  simpa only [Fin.mk.injEq] using this

/-! ## One chunk's scores and values -/

theorem score_apply (q : Vec Ideal S1x64x128 .bf16) (ks : Vec Ideal S32x128 .bf16) (kc : Vec Ideal S1x1024x128 .fp8e4m3) (h : Fin 64) (j : Fin 1024) :
    score q ks kc (ix2 h j) = if h.val / 16 = j.val % 4 then
      (∑ d, q (ix3 0 h d) * (kc (ix3 0 j d) * ks (ix2 (⟨j.val % 32, by omega⟩ : Fin 32) d))) * scale else (⊥ : EReal) := by
  unfold score
  pointwise [k0_pay31, k0_pay20, k0_pay14]
  rw [own_apply, ofBits_neg_inf]
  by_cases hh : h.val / 16 = j.val % 4
  · rw [if_pos hh, if_pos hh]; rfl
  · rw [if_neg hh, if_neg hh]; rfl

theorem vals_apply (vs : Vec Ideal S32x128 .bf16) (vc : Vec Ideal S1x1024x128 .fp8e4m3) (j : Fin 1024) (d : Fin 128) :
    vals vs vc (ix2 j d) = (vc (ix3 0 j d) : EReal) * vs (ix2 (⟨j.val % 32, by omega⟩ : Fin 32) d) := by
  unfold vals
  pointwise [k0_pay30, k0_pay21]

/-! ## One chunk folded in -/

theorem pay32_apply (s : FVec Ideal S64x1024 .f32) (x : FVec Ideal S64x1 .f32) (h : Fin 64) :
    k0_pay32 s x (ix2 h (0 : Fin 1)) = max (x (ix2 h (0 : Fin 1)) : EReal) (Finset.univ.sup fun j => s (ix2 h j)) := by
  pointwise [k0_pay32]
  rw [fold_max]

theorem step_m (s : FVec Ideal S64x1024 .f32) (v : FVec Ideal S1024x128 .bf16) (st : St Ideal) (h : Fin 64) :
    (step s v st).m (ix2 h (0 : Fin 1)) = max (st.m (ix2 h (0 : Fin 1)) : EReal) (Finset.univ.sup fun j => s (ix2 h j)) := by
  unfold step
  dsimp only
  pointwise [k0_pay37]
  exact pay32_apply _ _ _

theorem step_l (s : FVec Ideal S64x1024 .f32) (v : FVec Ideal S1024x128 .bf16) (st : St Ideal) (h : Fin 64) :
    (step s v st).l (ix2 h (0 : Fin 1))
      = (st.l (ix2 h (0 : Fin 1)) : EReal) * Ideal.exp (st.m (ix2 h (0 : Fin 1)) - (step s v st).m (ix2 h (0 : Fin 1)))
        + ∑ j, Ideal.exp (s (ix2 h j) - (step s v st).m (ix2 h (0 : Fin 1))) := by
  rw [step_m, ← pay32_apply]
  unfold step
  dsimp only
  pointwise [k0_pay35, k0_pay34, k0_pay33]

theorem step_a (s : FVec Ideal S64x1024 .f32) (v : FVec Ideal S1024x128 .bf16) (st : St Ideal) (h : Fin 64) (d : Fin 128) :
    (step s v st).a (ix2 h d)
      = (st.a (ix2 h d) : EReal) * Ideal.exp (st.m (ix2 h (0 : Fin 1)) - (step s v st).m (ix2 h (0 : Fin 1)))
        + ∑ j, Ideal.exp (s (ix2 h j) - (step s v st).m (ix2 h (0 : Fin 1))) * v (ix2 j d) := by
  rw [step_m, ← pay32_apply]
  unfold step
  dsimp only
  pointwise [k0_pay36, k0_pay34, k0_pay33]

/-! ## The start -/

theorem start_m (h : Fin 64) : (start (F := Ideal)).m (ix2 h (0 : Fin 1)) = (⊥ : EReal) := by
  unfold start
  dsimp only
  pointwise [k0_pay11]
  exact ofBits_neg_inf

theorem start_l (h : Fin 64) : (start (F := Ideal)).l (ix2 h (0 : Fin 1)) = (0 : EReal) := by
  unfold start
  dsimp only
  pointwise [k0_pay12]

theorem start_a (h : Fin 64) (d : Fin 128) : (start (F := Ideal)).a (ix2 h d) = (0 : EReal) := by
  unfold start
  dsimp only
  pointwise [k0_pay13]

/-! ## The new key and value -/

theorem code_k_apply (kn : Vec Ideal S1x4x128 .bf16) (ks : Vec Ideal S4x1 .f32) (g : Fin 4) (d : Fin 128) :
    k0_pay7 kn ks (ix3 (0 : Fin 1) g d) = code (kn (ix3 (0 : Fin 1) g d)) (ks (ix2 g (0 : Fin 1))) := by
  pointwise [k0_pay7, k0_pay5]
  rfl

theorem code_v_apply (vn : Vec Ideal S1x4x128 .bf16) (vs : Vec Ideal S4x1 .f32) (g : Fin 4) (d : Fin 128) :
    k0_pay8 vn vs (ix3 (0 : Fin 1) g d) = code (vn (ix3 (0 : Fin 1) g d)) (vs (ix2 g (0 : Fin 1))) := by
  pointwise [k0_pay8, k0_pay6]
  rfl

/-- The new key's score. -/
def newScore (q : Vec Ideal S1x64x128 .bf16) (kn : Vec Ideal S1x4x128 .bf16) (ks : Vec Ideal S4x1 .f32) (h : Fin 64) (g : Fin 4) : EReal :=
  (∑ d, q (ix3 (0 : Fin 1) h d) * (code (kn (ix3 (0 : Fin 1) g d)) (ks (ix2 g (0 : Fin 1))) * ks (ix2 g (0 : Fin 1)))) * scale

/-- What is written for head `h`: the sweep's state with the new key and value folded in, and the quotient. -/
theorem finish_apply (q : Vec Ideal S1x64x128 .bf16) (kn vn : Vec Ideal S1x4x128 .bf16) (ks vs : Vec Ideal S4x1 .f32) (st : St Ideal)
    (h : Fin 64) (g : Fin 4) (hg : g.val = h.val / 16) (d : Fin 128) :
    finish q kn vn ks vs st (ix3 (0 : Fin 1) h d) = Ideal.div
      ((st.a (ix2 h d) : EReal) * Ideal.exp (st.m (ix2 h (0 : Fin 1)) - max (st.m (ix2 h (0 : Fin 1)) : EReal) (newScore q kn ks h g))
        + Ideal.exp (newScore q kn ks h g - max (st.m (ix2 h (0 : Fin 1)) : EReal) (newScore q kn ks h g))
          * (code (vn (ix3 (0 : Fin 1) g d)) (vs (ix2 g (0 : Fin 1))) * vs (ix2 g (0 : Fin 1))))
      ((st.l (ix2 h (0 : Fin 1)) : EReal) * Ideal.exp (st.m (ix2 h (0 : Fin 1)) - max (st.m (ix2 h (0 : Fin 1)) : EReal) (newScore q kn ks h g))
        + Ideal.exp (newScore q kn ks h g - max (st.m (ix2 h (0 : Fin 1)) : EReal) (newScore q kn ks h g))) := by
  have hb : h.val / 16 < 4 := by have := h.isLt; omega
  obtain rfl : g = ⟨h.val / 16, hb⟩ := Fin.ext hg
  unfold finish newScore
  pointwise [k0_pay10, k0_pay14, k0_pay9, k0_pay6, k0_pay5]
  rfl

/-! ## A chunk of a block -/

theorem chunk_apply (n : Nat) (hn : ∀ a, (![0, n, 0] : Fin 3 → Nat) a + S1x1024x128.size a ≤ S1x8192x128.size a)
    (x : Vec Ideal S1x8192x128 .fp8e4m3) (j : Fin 1024) (d : Fin 128) (r : Fin 8192) (hr : r.val = n + j.val) :
    chunk n hn x (ix3 (0 : Fin 1) j d) = x (ix3 (0 : Fin 1) r d) := by
  unfold chunk
  refine congrArg x (funext fun a => Fin.ext ?_)
  match a with
  | 0 => rfl
  | 1 => show n + 1 * j.val = r.val; omega
  | 2 => show 0 + 1 * d.val = d.val; omega

end Cert.KernelIdeal.Body

end
-- ==== Proof.Sweep.lean ====
module

public import proofs.«01_k».proof.Proof.StepRead

/-! The sweep over a block of 8192 rows: what is carried stays the softmax of the rows seen so far. -/

@[expose] public section

noncomputable section

open Idealize.ShloMosaic Idealize.ShloMosaic.TcCoe Idealize.SL.Sem
open scoped BigOperators

namespace Cert.KernelIdeal.Body
open Cert.KernelIdeal Cert.KernelIdeal.Gen Cert.Softmax

/-- The carried values are the softmax of the first `n` rows, with scores `s` and values `v`, at head `h` and feature `d`. -/
structure Holds (s v : ℕ → EReal) (h : Fin 64) (d : Fin 128) (n : ℕ) (st : St Ideal) : Prop where
  m : st.m (ix2 h (0 : Fin 1)) = top s n
  l : st.l (ix2 h (0 : Fin 1)) = den s n
  a : st.a (ix2 h d) = num s v n

theorem holds_start (s v : ℕ → EReal) (h : Fin 64) (d : Fin 128) : Holds s v h d 0 start where
  m := (start_m h).trans (top_zero s).symm
  l := (start_l h).trans (den_zero s).symm
  a := (start_a h d).trans (num_zero s v).symm

/-- One chunk of 1024 rows. -/
theorem holds_step (s v : ℕ → EReal) (h : Fin 64) (d : Fin 128) (n : ℕ) (st : St Ideal) (hst : Holds s v h d n st)
    (sc : FVec Ideal S64x1024 .f32) (vl : FVec Ideal S1024x128 .bf16)
    (hsc : ∀ j : Fin 1024, sc (ix2 h j) = s (n + j.val)) (hvl : ∀ j : Fin 1024, vl (ix2 j d) = v (n + j.val)) :
    Holds s v h d (n + 1024) (step sc vl st) := by
  have hm : (step sc vl st).m (ix2 h (0 : Fin 1)) = top s (n + 1024) := by
    rw [step_m, hst.m, top_add]; simp only [hsc]
  refine ⟨hm, ?_, ?_⟩
  · rw [step_l, hm, hst.m, hst.l, den_add]; simp only [hsc]
  · rw [step_a, hm, hst.m, hst.a, num_add]; simp only [hsc, hvl]

/-- The score of row `r` of a block. -/
def rowScore (q : Vec Ideal S1x64x128 .bf16) (ks : Vec Ideal S32x128 .bf16) (kb : Vec Ideal S1x8192x128 .fp8e4m3) (h : Fin 64) (r : Fin 8192) : EReal :=
  if h.val / 16 = r.val % 4 then
    (∑ d, q (ix3 (0 : Fin 1) h d) * (kb (ix3 (0 : Fin 1) r d) * ks (ix2 (⟨r.val % 32, Nat.mod_lt _ (by decide)⟩ : Fin 32) d))) * scale
  else ⊥

/-- The value in row `r` of a block. -/
def rowVal (vs : Vec Ideal S32x128 .bf16) (vb : Vec Ideal S1x8192x128 .fp8e4m3) (d : Fin 128) (r : Fin 8192) : EReal :=
  vb (ix3 (0 : Fin 1) r d) * vs (ix2 (⟨r.val % 32, Nat.mod_lt _ (by decide)⟩ : Fin 32) d)

theorem score_chunk (q : Vec Ideal S1x64x128 .bf16) (ks : Vec Ideal S32x128 .bf16) (kb : Vec Ideal S1x8192x128 .fp8e4m3) (h : Fin 64)
    (k : ℕ) (hk : ∀ a, (![0, k, 0] : Fin 3 → Nat) a + S1x1024x128.size a ≤ S1x8192x128.size a) (hk' : k % 32 = 0)
    (j : Fin 1024) (r : Fin 8192) (hr : r.val = k + j.val) :
    score q ks (chunk k hk kb) (ix2 h j) = rowScore q ks kb h r := by
  rw [score_apply, rowScore]
  have e4 : j.val % 4 = r.val % 4 := by omega
  have e32 : j.val % 32 = r.val % 32 := by omega
  simp only [chunk_apply k hk kb j _ r hr, e4, e32]

theorem vals_chunk (vs : Vec Ideal S32x128 .bf16) (vb : Vec Ideal S1x8192x128 .fp8e4m3) (d : Fin 128)
    (k : ℕ) (hk : ∀ a, (![0, k, 0] : Fin 3 → Nat) a + S1x1024x128.size a ≤ S1x8192x128.size a) (hk' : k % 32 = 0)
    (j : Fin 1024) (r : Fin 8192) (hr : r.val = k + j.val) :
    vals vs (chunk k hk vb) (ix2 j d) = rowVal vs vb d r := by
  rw [vals_apply, rowVal]
  have e32 : j.val % 32 = r.val % 32 := by omega
  simp only [chunk_apply k hk vb j _ r hr, e32]

/-- One chunk of a block whose rows are rows `n …` of the whole. -/
theorem holds_chunk (s v : ℕ → EReal) (h : Fin 64) (d : Fin 128) (n : ℕ) (st : St Ideal)
    (q : Vec Ideal S1x64x128 .bf16) (kb vb : Vec Ideal S1x8192x128 .fp8e4m3) (ks vs : Vec Ideal S32x128 .bf16)
    (hs : ∀ r : Fin 8192, s (n + r.val) = rowScore q ks kb h r) (hv : ∀ r : Fin 8192, v (n + r.val) = rowVal vs vb d r)
    (k : ℕ) (hk : ∀ a, (![0, k, 0] : Fin 3 → Nat) a + S1x1024x128.size a ≤ S1x8192x128.size a) (hk' : k % 32 = 0) (hb : k + 1024 ≤ 8192)
    (hst : Holds s v h d (n + k) st) :
    Holds s v h d (n + (k + 1024)) (step (score q ks (chunk k hk kb)) (vals vs (chunk k hk vb)) st) := by
  rw [← Nat.add_assoc]
  refine holds_step s v h d (n + k) st hst _ _ (fun j => ?_) (fun j => ?_)
  · have hj : k + j.val < 8192 := by have := j.isLt; omega
    rw [score_chunk q ks kb h k hk hk' j ⟨k + j.val, hj⟩ rfl, ← hs, Nat.add_assoc]
  · have hj : k + j.val < 8192 := by have := j.isLt; omega
    rw [vals_chunk vs vb d k hk hk' j ⟨k + j.val, hj⟩ rfl, ← hv, Nat.add_assoc]

/-- The eight chunks of a block. -/
theorem holds_sweep (s v : ℕ → EReal) (h : Fin 64) (d : Fin 128) (n : ℕ) (st : St Ideal)
    (q : Vec Ideal S1x64x128 .bf16) (kb vb : Vec Ideal S1x8192x128 .fp8e4m3) (ks vs : Vec Ideal S32x128 .bf16)
    (hs : ∀ r : Fin 8192, s (n + r.val) = rowScore q ks kb h r) (hv : ∀ r : Fin 8192, v (n + r.val) = rowVal vs vb d r)
    (hst : Holds s v h d n st) : Holds s v h d (n + 8192) (sweep q kb vb ks vs st) := by
  unfold sweep
  refine holds_chunk s v h d n _ q kb vb ks vs hs hv 7168 _ (by decide) (by decide) ?_
  refine holds_chunk s v h d n _ q kb vb ks vs hs hv 6144 _ (by decide) (by decide) ?_
  refine holds_chunk s v h d n _ q kb vb ks vs hs hv 5120 _ (by decide) (by decide) ?_
  refine holds_chunk s v h d n _ q kb vb ks vs hs hv 4096 _ (by decide) (by decide) ?_
  refine holds_chunk s v h d n _ q kb vb ks vs hs hv 3072 _ (by decide) (by decide) ?_
  refine holds_chunk s v h d n _ q kb vb ks vs hs hv 2048 _ (by decide) (by decide) ?_
  refine holds_chunk s v h d n _ q kb vb ks vs hs hv 1024 _ (by decide) (by decide) ?_
  exact holds_chunk s v h d n _ q kb vb ks vs hs hv 0 _ (by decide) (by decide) hst

end Cert.KernelIdeal.Body

end
-- ==== Proof.Inputs.lean ====
module

public import proofs.«01_k».proof.Proof.Body
public import Idealize.ShloMosaic.Lib.StableHlo.Run
public import Idealize.ShloMosaic.Lib.Pipeline.ValueKit
public import Idealize.ShloMosaic.Lib.Pointwise.TacticCore
public import Idealize.ShloMosaic.Lib.Pointwise

/-! The blocks the kernel's grid points read, at one index, as the program's arguments. -/

@[expose] public section

set_option maxRecDepth 16384

noncomputable section

open Idealize.ShloMosaic Idealize.ShloMosaic.TcCoe Idealize.SL.Sem Idealize.ShloMosaic.StableHlo

namespace Cert.KernelIdeal.Body
open Cert.KernelIdeal Cert.KernelIdeal.Gen

section
variable {F : FTy → Type} [FloatOps F]
variable (m : (ℓ : Loc nD τ sig) → Buf (Elt F) ℓ)

/-! ## The arrays the host lines before the kernel leave -/

theorem V_v0 (c : Dev nD) : V m c main_v0 = shapeCast _ (m ((c : Thread nD τ).loc main_arg0)) shapeCasts_S8x1x8192_S8x64x128 := by
  unfold V V0
  simp only [hostOps0, List.flatten_cons, List.flatten_nil, List.append_nil, List.cons_append, List.nil_append]
  after_results <;> rfl
theorem V_v1 (c : Dev nD) : V m c main_v1 = shapeCast _ (m ((c : Thread nD τ).loc main_arg3)) shapeCasts_S8x8192x4x128_S8x32768x128 := by
  unfold V V0
  simp only [hostOps0, List.flatten_cons, List.flatten_nil, List.append_nil, List.cons_append, List.nil_append]
  after_results <;> rfl
theorem V_v2 (c : Dev nD) : V m c main_v2 = shapeCast _ (m ((c : Thread nD τ).loc main_arg5)) shapeCasts_S8x8192x4x128_S8x32768x128 := by
  unfold V V0
  simp only [hostOps0, List.flatten_cons, List.flatten_nil, List.append_nil, List.cons_append, List.nil_append]
  after_results <;> rfl
theorem V_v3 (c : Dev nD) : V m c main_v3 = shapeCast _ (m ((c : Thread nD τ).loc main_arg1)) shapeCasts_S8x1x4x128_S8x4x128 := by
  unfold V V0
  simp only [hostOps0, List.flatten_cons, List.flatten_nil, List.append_nil, List.cons_append, List.nil_append]
  after_results <;> rfl
theorem V_v4 (c : Dev nD) : V m c main_v4 = shapeCast _ (m ((c : Thread nD τ).loc main_arg2)) shapeCasts_S8x1x4x128_S8x4x128 := by
  unfold V V0
  simp only [hostOps0, List.flatten_cons, List.flatten_nil, List.append_nil, List.cons_append, List.nil_append]
  after_results <;> rfl
theorem V_v5 (c : Dev nD) : V m c main_v5 = shapeCast _ (m ((c : Thread nD τ).loc main_arg4)) shapeCasts_S4_S4x1 := by
  unfold V V0
  simp only [hostOps0, List.flatten_cons, List.flatten_nil, List.append_nil, List.cons_append, List.nil_append]
  after_results <;> rfl
theorem V_v6 (c : Dev nD) : V m c main_v6 = shapeCast _ (m ((c : Thread nD τ).loc main_arg6)) shapeCasts_S4_S4x1 := by
  unfold V V0
  simp only [hostOps0, List.flatten_cons, List.flatten_nil, List.append_nil, List.cons_append, List.nil_append]
  after_results <;> rfl

/-- The scales laid out over 32 rows: row `r` holds scale `r % 4`. -/
def tile (x : (⟨S4, .f32⟩ : BufTy).Contents (Elt F)) : (⟨S32x128, .bf16⟩ : BufTy).Contents (Elt F) :=
  broadcastInDim S32x128 ![0, 1] bcast_S32x1_S32x128_0_1 (broadcastInDim S32x1 ![0] bcast_S32_S32x1_0
    (shapeCast S32 (broadcastInDim S8x4 ![0, 1] bcast_S1x4_S8x4_0_1
      (shapeCast S1x4 (truncf .bf16 x bitsLt_bf16_f32) shapeCasts_S4_S1x4)) shapeCasts_S8x4_S32))

theorem V_v12 (c : Dev nD) : V m c main_v12 = tile (m ((c : Thread nD τ).loc main_arg4)) := by
  unfold V V0
  simp only [hostOps0, List.flatten_cons, List.flatten_nil, List.append_nil, List.cons_append, List.nil_append]
  after_results <;> rfl
theorem V_v18 (c : Dev nD) : V m c main_v18 = tile (m ((c : Thread nD τ).loc main_arg6)) := by
  unfold V V0
  simp only [hostOps0, List.flatten_cons, List.flatten_nil, List.append_nil, List.cons_append, List.nil_append]
  after_results <;> rfl
end

variable (m : (ℓ : Loc nD τ sig) → Buf (Elt Ideal) ℓ)

theorem tile_apply (x : (⟨S4, .f32⟩ : BufTy).Contents (Elt Ideal)) (r : Fin 32) (d : Fin 128) :
    tile x (ix2 r d) = x (ix1 (⟨r.val % 4, Nat.mod_lt _ (by decide)⟩ : Fin 4)) := by
  unfold tile
  pointwise []

theorem cast_x (x : Vec Ideal S8x1x8192 .bf16) (b : Fin 8) (h : Fin 64) (d : Fin 128) :
    shapeCast S8x64x128 x shapeCasts_S8x1x8192_S8x64x128 (ix3 b h d) = x (ix3 b (0 : Fin 1) (⟨h.val * 128 + d.val, by omega⟩ : Fin 8192)) := by
  pointwise []

theorem cast_rows (x : Vec Ideal S8x8192x4x128 .fp8e4m3) (b : Fin 8) (r : Fin 32768) (d : Fin 128) :
    shapeCast S8x32768x128 x shapeCasts_S8x8192x4x128_S8x32768x128 (ix3 b r d)
      = x (ix4 b (⟨r.val / 4, by omega⟩ : Fin 8192) (⟨r.val % 4, Nat.mod_lt _ (by decide)⟩ : Fin 4) d) := by
  pointwise []

theorem cast_new (x : Vec Ideal S8x1x4x128 .bf16) (b : Fin 8) (g : Fin 4) (d : Fin 128) :
    shapeCast S8x4x128 x shapeCasts_S8x1x4x128_S8x4x128 (ix3 b g d) = x (ix4 b (0 : Fin 1) g d) := by
  pointwise []

theorem cast_scale (x : Vec Ideal S4 .f32) (g : Fin 4) :
    shapeCast S4x1 x shapeCasts_S4_S4x1 (ix2 g (0 : Fin 1)) = x (ix1 g) := by
  pointwise []

/-! ## The blocks -/

/-- Grid point `i` of batch `b`. -/
def pt (b : Fin 8) (i : Fin 4) : Fin cfg0.N := ⟨4 * b.val + i.val, lt_of_lt_of_eq (by omega) N_0.symm⟩

theorem index_0 : ∀ (b : Fin 8) (i : Fin 4), win0_0.index (pt b i) = ![b.val, 0, 0] := by decide +kernel
theorem index_1 : ∀ (b : Fin 8) (i : Fin 4), win0_1.index (pt b i) = ![b.val, 0, 0] := by decide +kernel
theorem index_2 : ∀ (b : Fin 8) (i : Fin 4), win0_2.index (pt b i) = ![b.val, 0, 0] := by decide +kernel
theorem index_3 : ∀ (b : Fin 8) (i : Fin 4), win0_3.index (pt b i) = ![b.val, i.val, 0] := by decide +kernel
theorem index_4 : ∀ (b : Fin 8) (i : Fin 4), win0_4.index (pt b i) = ![b.val, i.val, 0] := by decide +kernel
theorem index_5 : ∀ (b : Fin 8) (i : Fin 4), win0_5.index (pt b i) = ![0, 0] := by decide +kernel
theorem index_6 : ∀ (b : Fin 8) (i : Fin 4), win0_6.index (pt b i) = ![0, 0] := by decide +kernel
theorem index_7 : ∀ (b : Fin 8) (i : Fin 4), win0_7.index (pt b i) = ![0, 0] := by decide +kernel
theorem index_8 : ∀ (b : Fin 8) (i : Fin 4), win0_8.index (pt b i) = ![0, 0] := by decide +kernel

theorem iblk_0 (c : Dev nD) (b : Fin 8) (i : Fin 4) (r : Fin 64) (d : Fin 128) :
    (iblk m c 0 (pt b i) : Vec Ideal S1x64x128 .bf16) (ix3 (0 : Fin 1) r d) = V m c main_v0 (ix3 b r d) := by
  have e := index_0 b i
  have e0 : win0_0.index (pt b i) (0 : Fin 3) = b.val := congrFun e 0
  have e1 : win0_0.index (pt b i) (1 : Fin 3) = 0 := congrFun e 1
  have e2 : win0_0.index (pt b i) (2 : Fin 3) = 0 := congrFun e 2
  show V m c main_v0 (((cfg0.win 0).blk (pt b i)).view.emb (ix3 (0 : Fin 1) r d)) = _
  refine congrArg (V m c main_v0) (funext fun a => Fin.ext ?_)
  match a with
  | 0 => show win0_0.index (pt b i) (0 : Fin 3) * 1 + 1 * 0 = b.val; omega
  | 1 => show win0_0.index (pt b i) (1 : Fin 3) * 64 + 1 * r.val = r.val; omega
  | 2 => show win0_0.index (pt b i) (2 : Fin 3) * 128 + 1 * d.val = d.val; omega

theorem iblk_1 (c : Dev nD) (b : Fin 8) (i : Fin 4) (r : Fin 4) (d : Fin 128) :
    (iblk m c 1 (pt b i) : Vec Ideal S1x4x128 .bf16) (ix3 (0 : Fin 1) r d) = V m c main_v3 (ix3 b r d) := by
  have e := index_1 b i
  have e0 : win0_1.index (pt b i) (0 : Fin 3) = b.val := congrFun e 0
  have e1 : win0_1.index (pt b i) (1 : Fin 3) = 0 := congrFun e 1
  have e2 : win0_1.index (pt b i) (2 : Fin 3) = 0 := congrFun e 2
  show V m c main_v3 (((cfg0.win 1).blk (pt b i)).view.emb (ix3 (0 : Fin 1) r d)) = _
  refine congrArg (V m c main_v3) (funext fun a => Fin.ext ?_)
  match a with
  | 0 => show win0_1.index (pt b i) (0 : Fin 3) * 1 + 1 * 0 = b.val; omega
  | 1 => show win0_1.index (pt b i) (1 : Fin 3) * 4 + 1 * r.val = r.val; omega
  | 2 => show win0_1.index (pt b i) (2 : Fin 3) * 128 + 1 * d.val = d.val; omega

theorem iblk_2 (c : Dev nD) (b : Fin 8) (i : Fin 4) (r : Fin 4) (d : Fin 128) :
    (iblk m c 2 (pt b i) : Vec Ideal S1x4x128 .bf16) (ix3 (0 : Fin 1) r d) = V m c main_v4 (ix3 b r d) := by
  have e := index_2 b i
  have e0 : win0_2.index (pt b i) (0 : Fin 3) = b.val := congrFun e 0
  have e1 : win0_2.index (pt b i) (1 : Fin 3) = 0 := congrFun e 1
  have e2 : win0_2.index (pt b i) (2 : Fin 3) = 0 := congrFun e 2
  show V m c main_v4 (((cfg0.win 2).blk (pt b i)).view.emb (ix3 (0 : Fin 1) r d)) = _
  refine congrArg (V m c main_v4) (funext fun a => Fin.ext ?_)
  match a with
  | 0 => show win0_2.index (pt b i) (0 : Fin 3) * 1 + 1 * 0 = b.val; omega
  | 1 => show win0_2.index (pt b i) (1 : Fin 3) * 4 + 1 * r.val = r.val; omega
  | 2 => show win0_2.index (pt b i) (2 : Fin 3) * 128 + 1 * d.val = d.val; omega

theorem iblk_3 (c : Dev nD) (b : Fin 8) (i : Fin 4) (r : Fin 8192) (d : Fin 128) (R : Fin 32768) (hR : R.val = 8192 * i.val + r.val) :
    (iblk m c 3 (pt b i) : Vec Ideal S1x8192x128 .fp8e4m3) (ix3 (0 : Fin 1) r d) = V m c main_v1 (ix3 b R d) := by
  have e := index_3 b i
  have e0 : win0_3.index (pt b i) (0 : Fin 3) = b.val := congrFun e 0
  have e1 : win0_3.index (pt b i) (1 : Fin 3) = i.val := congrFun e 1
  have e2 : win0_3.index (pt b i) (2 : Fin 3) = 0 := congrFun e 2
  show V m c main_v1 (((cfg0.win 3).blk (pt b i)).view.emb (ix3 (0 : Fin 1) r d)) = _
  refine congrArg (V m c main_v1) (funext fun a => Fin.ext ?_)
  match a with
  | 0 => show win0_3.index (pt b i) (0 : Fin 3) * 1 + 1 * 0 = b.val; omega
  | 1 => show win0_3.index (pt b i) (1 : Fin 3) * 8192 + 1 * r.val = R.val; omega
  | 2 => show win0_3.index (pt b i) (2 : Fin 3) * 128 + 1 * d.val = d.val; omega

theorem iblk_4 (c : Dev nD) (b : Fin 8) (i : Fin 4) (r : Fin 8192) (d : Fin 128) (R : Fin 32768) (hR : R.val = 8192 * i.val + r.val) :
    (iblk m c 4 (pt b i) : Vec Ideal S1x8192x128 .fp8e4m3) (ix3 (0 : Fin 1) r d) = V m c main_v2 (ix3 b R d) := by
  have e := index_4 b i
  have e0 : win0_4.index (pt b i) (0 : Fin 3) = b.val := congrFun e 0
  have e1 : win0_4.index (pt b i) (1 : Fin 3) = i.val := congrFun e 1
  have e2 : win0_4.index (pt b i) (2 : Fin 3) = 0 := congrFun e 2
  show V m c main_v2 (((cfg0.win 4).blk (pt b i)).view.emb (ix3 (0 : Fin 1) r d)) = _
  refine congrArg (V m c main_v2) (funext fun a => Fin.ext ?_)
  match a with
  | 0 => show win0_4.index (pt b i) (0 : Fin 3) * 1 + 1 * 0 = b.val; omega
  | 1 => show win0_4.index (pt b i) (1 : Fin 3) * 8192 + 1 * r.val = R.val; omega
  | 2 => show win0_4.index (pt b i) (2 : Fin 3) * 128 + 1 * d.val = d.val; omega

theorem iblk_5 (c : Dev nD) (b : Fin 8) (i : Fin 4) (r : Fin 4) (d : Fin 1) :
    (iblk m c 5 (pt b i) : Vec Ideal S4x1 .f32) (ix2 r d) = V m c main_v5 (ix2 r d) := by
  have e := index_5 b i
  have e0 : win0_5.index (pt b i) (0 : Fin 2) = 0 := congrFun e 0
  have e1 : win0_5.index (pt b i) (1 : Fin 2) = 0 := congrFun e 1
  show V m c main_v5 (((cfg0.win 5).blk (pt b i)).view.emb (ix2 r d)) = _
  refine congrArg (V m c main_v5) (funext fun a => Fin.ext ?_)
  match a with
  | 0 => show win0_5.index (pt b i) (0 : Fin 2) * 4 + 1 * r.val = r.val; omega
  | 1 => show win0_5.index (pt b i) (1 : Fin 2) * 1 + 1 * d.val = d.val; omega

theorem iblk_6 (c : Dev nD) (b : Fin 8) (i : Fin 4) (r : Fin 4) (d : Fin 1) :
    (iblk m c 6 (pt b i) : Vec Ideal S4x1 .f32) (ix2 r d) = V m c main_v6 (ix2 r d) := by
  have e := index_6 b i
  have e0 : win0_6.index (pt b i) (0 : Fin 2) = 0 := congrFun e 0
  have e1 : win0_6.index (pt b i) (1 : Fin 2) = 0 := congrFun e 1
  show V m c main_v6 (((cfg0.win 6).blk (pt b i)).view.emb (ix2 r d)) = _
  refine congrArg (V m c main_v6) (funext fun a => Fin.ext ?_)
  match a with
  | 0 => show win0_6.index (pt b i) (0 : Fin 2) * 4 + 1 * r.val = r.val; omega
  | 1 => show win0_6.index (pt b i) (1 : Fin 2) * 1 + 1 * d.val = d.val; omega

theorem iblk_7 (c : Dev nD) (b : Fin 8) (i : Fin 4) (r : Fin 32) (d : Fin 128) :
    (iblk m c 7 (pt b i) : Vec Ideal S32x128 .bf16) (ix2 r d) = V m c main_v12 (ix2 r d) := by
  have e := index_7 b i
  have e0 : win0_7.index (pt b i) (0 : Fin 2) = 0 := congrFun e 0
  have e1 : win0_7.index (pt b i) (1 : Fin 2) = 0 := congrFun e 1
  show V m c main_v12 (((cfg0.win 7).blk (pt b i)).view.emb (ix2 r d)) = _
  refine congrArg (V m c main_v12) (funext fun a => Fin.ext ?_)
  match a with
  | 0 => show win0_7.index (pt b i) (0 : Fin 2) * 32 + 1 * r.val = r.val; omega
  | 1 => show win0_7.index (pt b i) (1 : Fin 2) * 128 + 1 * d.val = d.val; omega

theorem iblk_8 (c : Dev nD) (b : Fin 8) (i : Fin 4) (r : Fin 32) (d : Fin 128) :
    (iblk m c 8 (pt b i) : Vec Ideal S32x128 .bf16) (ix2 r d) = V m c main_v18 (ix2 r d) := by
  have e := index_8 b i
  have e0 : win0_8.index (pt b i) (0 : Fin 2) = 0 := congrFun e 0
  have e1 : win0_8.index (pt b i) (1 : Fin 2) = 0 := congrFun e 1
  show V m c main_v18 (((cfg0.win 8).blk (pt b i)).view.emb (ix2 r d)) = _
  refine congrArg (V m c main_v18) (funext fun a => Fin.ext ?_)
  match a with
  | 0 => show win0_8.index (pt b i) (0 : Fin 2) * 32 + 1 * r.val = r.val; omega
  | 1 => show win0_8.index (pt b i) (1 : Fin 2) * 128 + 1 * d.val = d.val; omega

end Cert.KernelIdeal.Body

end
-- ==== Proof.Arrays.lean ====
module

public import proofs.«01_k».proof.Proof.Inputs
public import proofs.«01_k».proof.Proof.Gen.KernelIdeal.Run
public import Idealize.ShloMosaic.Lib.Pipeline.ValueKit

/-! The arrays the kernel leaves: the block of batch `b` is what its last grid point wrote. -/

@[expose] public section

noncomputable section

open Idealize.ShloMosaic Idealize.ShloMosaic.TcCoe Idealize.SL.Sem

namespace Cert.KernelIdeal.Body
open Cert.KernelIdeal Cert.KernelIdeal.Gen Cert.KernelIdeal.Value

variable (m : (ℓ : Loc nD τ sig) → Buf (Elt Ideal) ℓ)

theorem index_9 : ∀ (b : Fin 8), win0_9.flush (pt b 3) = true ∧ win0_9.index (pt b 3) = ![b.val, 0, 0] := by decide +kernel
theorem index_inj_9 : ∀ t t' : Fin grid0.N, win0_9.flush t = true → win0_9.flush t' = true → win0_9.index t = win0_9.index t' → t = t' := by
  decide +kernel

theorem array_9 (c : Dev nD) (b : Fin 8) (h : Fin 64) (d : Fin 128) :
    reg_main_v19_0 m c (ix3 b h d) = (outsAt0 m c (pt b 3).val (pt b 3).isLt).1 (ix3 (0 : Fin 1) h d) := by
  obtain ⟨hf, e⟩ := index_9 b
  have e0 : win0_9.index (pt b 3) (0 : Fin 3) = b.val := congrFun e 0
  have e1 : win0_9.index (pt b 3) (1 : Fin 3) = 0 := congrFun e 1
  have e2 : win0_9.index (pt b 3) (2 : Fin 3) = 0 := congrFun e 2
  have key := (dats m 0 c).arrAt_emb_eq_flushed 9 (Pipeline.Window.hdisj_of_index_inj win0_9 index_inj_9) (pt b 3) hf (ix3 (0 : Fin 1) h d)
  have hi : ((cfg0.win 9).blk (pt b 3)).view.emb (ix3 (0 : Fin 1) h d) = ix3 b h d := funext fun a => Fin.ext (by
    match a with
    | 0 => show win0_9.index (pt b 3) (0 : Fin 3) * 1 + 1 * 0 = b.val; omega
    | 1 => show win0_9.index (pt b 3) (1 : Fin 3) * 64 + 1 * h.val = h.val; omega
    | 2 => show win0_9.index (pt b 3) (2 : Fin 3) * 128 + 1 * d.val = d.val; omega)
  have hfl : (dats m 0 c).flushed 9 (pt b 3) = (cfg0.win 9).cut (grid0.coords (pt b 3)) ((outsAt0 m c (pt b 3).val (pt b 3).isLt).1) := by
    show (cfg0.win 9).cut (grid0.coords (pt b 3)) ((dats m 0 c).after 9 (pt b 3)) = _
    rw [after0_9]
  rw [hi, hfl] at key
  exact key

theorem index_10 : ∀ (b : Fin 8), win0_10.flush (pt b 3) = true ∧ win0_10.index (pt b 3) = ![b.val, 0, 0] := by decide +kernel
theorem index_inj_10 : ∀ t t' : Fin grid0.N, win0_10.flush t = true → win0_10.flush t' = true → win0_10.index t = win0_10.index t' → t = t' := by
  decide +kernel

theorem array_10 (c : Dev nD) (b : Fin 8) (h : Fin 4) (d : Fin 128) :
    reg_main_v19_1 m c (ix3 b h d) = (outsAt0 m c (pt b 3).val (pt b 3).isLt).2.1 (ix3 (0 : Fin 1) h d) := by
  obtain ⟨hf, e⟩ := index_10 b
  have e0 : win0_10.index (pt b 3) (0 : Fin 3) = b.val := congrFun e 0
  have e1 : win0_10.index (pt b 3) (1 : Fin 3) = 0 := congrFun e 1
  have e2 : win0_10.index (pt b 3) (2 : Fin 3) = 0 := congrFun e 2
  have key := (dats m 0 c).arrAt_emb_eq_flushed 10 (Pipeline.Window.hdisj_of_index_inj win0_10 index_inj_10) (pt b 3) hf (ix3 (0 : Fin 1) h d)
  have hi : ((cfg0.win 10).blk (pt b 3)).view.emb (ix3 (0 : Fin 1) h d) = ix3 b h d := funext fun a => Fin.ext (by
    match a with
    | 0 => show win0_10.index (pt b 3) (0 : Fin 3) * 1 + 1 * 0 = b.val; omega
    | 1 => show win0_10.index (pt b 3) (1 : Fin 3) * 4 + 1 * h.val = h.val; omega
    | 2 => show win0_10.index (pt b 3) (2 : Fin 3) * 128 + 1 * d.val = d.val; omega)
  have hfl : (dats m 0 c).flushed 10 (pt b 3) = (cfg0.win 10).cut (grid0.coords (pt b 3)) ((outsAt0 m c (pt b 3).val (pt b 3).isLt).2.1) := by
    show (cfg0.win 10).cut (grid0.coords (pt b 3)) ((dats m 0 c).after 10 (pt b 3)) = _
    rw [after0_10]
  rw [hi, hfl] at key
  exact key

theorem index_11 : ∀ (b : Fin 8), win0_11.flush (pt b 3) = true ∧ win0_11.index (pt b 3) = ![b.val, 0, 0] := by decide +kernel
theorem index_inj_11 : ∀ t t' : Fin grid0.N, win0_11.flush t = true → win0_11.flush t' = true → win0_11.index t = win0_11.index t' → t = t' := by
  decide +kernel

theorem array_11 (c : Dev nD) (b : Fin 8) (h : Fin 4) (d : Fin 128) :
    reg_main_v19_2 m c (ix3 b h d) = (outsAt0 m c (pt b 3).val (pt b 3).isLt).2.2.1 (ix3 (0 : Fin 1) h d) := by
  obtain ⟨hf, e⟩ := index_11 b
  have e0 : win0_11.index (pt b 3) (0 : Fin 3) = b.val := congrFun e 0
  have e1 : win0_11.index (pt b 3) (1 : Fin 3) = 0 := congrFun e 1
  have e2 : win0_11.index (pt b 3) (2 : Fin 3) = 0 := congrFun e 2
  have key := (dats m 0 c).arrAt_emb_eq_flushed 11 (Pipeline.Window.hdisj_of_index_inj win0_11 index_inj_11) (pt b 3) hf (ix3 (0 : Fin 1) h d)
  have hi : ((cfg0.win 11).blk (pt b 3)).view.emb (ix3 (0 : Fin 1) h d) = ix3 b h d := funext fun a => Fin.ext (by
    match a with
    | 0 => show win0_11.index (pt b 3) (0 : Fin 3) * 1 + 1 * 0 = b.val; omega
    | 1 => show win0_11.index (pt b 3) (1 : Fin 3) * 4 + 1 * h.val = h.val; omega
    | 2 => show win0_11.index (pt b 3) (2 : Fin 3) * 128 + 1 * d.val = d.val; omega)
  have hfl : (dats m 0 c).flushed 11 (pt b 3) = (cfg0.win 11).cut (grid0.coords (pt b 3)) ((outsAt0 m c (pt b 3).val (pt b 3).isLt).2.2.1) := by
    show (cfg0.win 11).cut (grid0.coords (pt b 3)) ((dats m 0 c).after 11 (pt b 3)) = _
    rw [after0_11]
  rw [hi, hfl] at key
  exact key

end Cert.KernelIdeal.Body

end
-- ==== Proof.KernelValue.lean ====
module

public import proofs.«01_k».proof.Proof.Sweep
public import proofs.«01_k».proof.Proof.Arrays

/-! The kernel's results at an index, as functions of the arguments. -/

@[expose] public section

noncomputable section

open Idealize.ShloMosaic Idealize.ShloMosaic.TcCoe Idealize.SL.Sem
open scoped BigOperators

namespace Cert.KernelIdeal.Body
open Cert.KernelIdeal Cert.KernelIdeal.Gen Cert.KernelIdeal.Value Cert.Softmax

variable (m : (ℓ : Loc nD τ sig) → Buf (Elt Ideal) ℓ)

/-- The arguments at coordinates. -/
def args (c : Dev nD) : Args where
  x b h d := (m ((c : Thread nD τ).loc main_arg0) : Vec Ideal S8x1x8192 .bf16) (ix3 b (0 : Fin 1) (⟨h.val * 128 + d.val, by omega⟩ : Fin 8192))
  kn b g d := (m ((c : Thread nD τ).loc main_arg1) : Vec Ideal S8x1x4x128 .bf16) (ix4 b (0 : Fin 1) g d)
  vn b g d := (m ((c : Thread nD τ).loc main_arg2) : Vec Ideal S8x1x4x128 .bf16) (ix4 b (0 : Fin 1) g d)
  kc b t g d := (m ((c : Thread nD τ).loc main_arg3) : Vec Ideal S8x8192x4x128 .fp8e4m3) (ix4 b t g d)
  vc b t g d := (m ((c : Thread nD τ).loc main_arg5) : Vec Ideal S8x8192x4x128 .fp8e4m3) (ix4 b t g d)
  ks g := (m ((c : Thread nD τ).loc main_arg4) : Vec Ideal S4 .f32) (ix1 g)
  vs g := (m ((c : Thread nD τ).loc main_arg6) : Vec Ideal S4 .f32) (ix1 g)

/-! ## The blocks as the arguments -/

theorem blk_x (c : Dev nD) (b : Fin 8) (i : Fin 4) (h : Fin 64) (d : Fin 128) :
    (iblk m c 0 (pt b i) : Vec Ideal S1x64x128 .bf16) (ix3 (0 : Fin 1) h d) = (args m c).x b h d := by
  rw [iblk_0, V_v0, cast_x]; rfl
theorem blk_kn (c : Dev nD) (b : Fin 8) (i : Fin 4) (g : Fin 4) (d : Fin 128) :
    (iblk m c 1 (pt b i) : Vec Ideal S1x4x128 .bf16) (ix3 (0 : Fin 1) g d) = (args m c).kn b g d := by
  rw [iblk_1, V_v3, cast_new]; rfl
theorem blk_vn (c : Dev nD) (b : Fin 8) (i : Fin 4) (g : Fin 4) (d : Fin 128) :
    (iblk m c 2 (pt b i) : Vec Ideal S1x4x128 .bf16) (ix3 (0 : Fin 1) g d) = (args m c).vn b g d := by
  rw [iblk_2, V_v4, cast_new]; rfl
theorem blk_ks (c : Dev nD) (b : Fin 8) (i : Fin 4) (g : Fin 4) :
    (iblk m c 5 (pt b i) : Vec Ideal S4x1 .f32) (ix2 g (0 : Fin 1)) = (args m c).ks g := by
  rw [iblk_5, V_v5, cast_scale]; rfl
theorem blk_vs (c : Dev nD) (b : Fin 8) (i : Fin 4) (g : Fin 4) :
    (iblk m c 6 (pt b i) : Vec Ideal S4x1 .f32) (ix2 g (0 : Fin 1)) = (args m c).vs g := by
  rw [iblk_6, V_v6, cast_scale]; rfl
theorem blk_kc (c : Dev nD) (b : Fin 8) (i : Fin 4) (r : Fin 8192) (d : Fin 128) (R : Fin 32768) (hR : R.val = 8192 * i.val + r.val) :
    (iblk m c 3 (pt b i) : Vec Ideal S1x8192x128 .fp8e4m3) (ix3 (0 : Fin 1) r d)
      = (args m c).kc b (⟨R.val / 4, by omega⟩ : Fin 8192) (⟨R.val % 4, Nat.mod_lt _ (by decide)⟩ : Fin 4) d := by
  rw [iblk_3 m c b i r d R hR, V_v1, cast_rows]; rfl
theorem blk_vc (c : Dev nD) (b : Fin 8) (i : Fin 4) (r : Fin 8192) (d : Fin 128) (R : Fin 32768) (hR : R.val = 8192 * i.val + r.val) :
    (iblk m c 4 (pt b i) : Vec Ideal S1x8192x128 .fp8e4m3) (ix3 (0 : Fin 1) r d)
      = (args m c).vc b (⟨R.val / 4, by omega⟩ : Fin 8192) (⟨R.val % 4, Nat.mod_lt _ (by decide)⟩ : Fin 4) d := by
  rw [iblk_4 m c b i r d R hR, V_v2, cast_rows]; rfl
theorem blk_kt (c : Dev nD) (b : Fin 8) (i : Fin 4) (r : Fin 32) (d : Fin 128) :
    (iblk m c 7 (pt b i) : Vec Ideal S32x128 .bf16) (ix2 r d) = (args m c).ks (⟨r.val % 4, Nat.mod_lt _ (by decide)⟩ : Fin 4) := by
  rw [iblk_7, V_v12, tile_apply]; rfl
theorem blk_vt (c : Dev nD) (b : Fin 8) (i : Fin 4) (r : Fin 32) (d : Fin 128) :
    (iblk m c 8 (pt b i) : Vec Ideal S32x128 .bf16) (ix2 r d) = (args m c).vs (⟨r.val % 4, Nat.mod_lt _ (by decide)⟩ : Fin 4) := by
  rw [iblk_8, V_v18, tile_apply]; rfl

/-! ## A block's rows are rows of the whole -/

theorem rowS_eq (c : Dev nD) (b : Fin 8) (i : Fin 4) (h : Fin 64) (r : Fin 8192) :
    (args m c).rowS b h (8192 * i.val + r.val) = rowScore (iblk m c 0 (pt b i)) (iblk m c 7 (pt b i)) (iblk m c 3 (pt b i)) h r := by
  have hR : 8192 * i.val + r.val < 32768 := by omega
  have e4 : (8192 * i.val + r.val) % 4 = r.val % 4 := by omega
  have e32 : r.val % 32 % 4 = (8192 * i.val + r.val) % 4 := by omega
  unfold Args.rowS rowScore
  rw [dif_pos (show (8192 * i.val + r.val) / 4 < 8192 by omega)]
  refine if_congr (by rw [e4]) (congrArg (· * scale) (Finset.sum_congr rfl fun d _ => ?_)) rfl
  rw [blk_x, blk_kt, blk_kc m c b i r d ⟨8192 * i.val + r.val, hR⟩ rfl]
  simp only [e32]

theorem rowV_eq (c : Dev nD) (b : Fin 8) (i : Fin 4) (d : Fin 128) (r : Fin 8192) :
    (args m c).rowV b d (8192 * i.val + r.val) = rowVal (iblk m c 8 (pt b i)) (iblk m c 4 (pt b i)) d r := by
  have hR : 8192 * i.val + r.val < 32768 := by omega
  have e32 : r.val % 32 % 4 = (8192 * i.val + r.val) % 4 := by omega
  unfold Args.rowV rowVal
  rw [dif_pos (show (8192 * i.val + r.val) / 4 < 8192 by omega), blk_vt, blk_vc m c b i r d ⟨8192 * i.val + r.val, hR⟩ rfl]
  simp only [e32]

/-- One grid point. -/
theorem holds_point (c : Dev nD) (b : Fin 8) (i : Fin 4) (h : Fin 64) (d : Fin 128) (st : St Ideal)
    (hst : Holds ((args m c).rowS b h) ((args m c).rowV b d) h d (8192 * i.val) st) :
    Holds ((args m c).rowS b h) ((args m c).rowV b d) h d (8192 * i.val + 8192) (sweepAt m c (pt b i) st) :=
  holds_sweep _ _ h d _ st _ _ _ _ _ (rowS_eq m c b i h) (rowV_eq m c b i d) hst

/-- The four grid points of a batch. -/
theorem holds_batch (c : Dev nD) (b : Fin 8) (h : Fin 64) (d : Fin 128) :
    Holds ((args m c).rowS b h) ((args m c).rowV b d) h d 32768 (stAt m c (pt b 3).val (pt b 3).isLt) := by
  have v0 : (pt b 0).val = 4 * b.val := rfl
  have v1 : (pt b 1).val = 4 * b.val + 1 := rfl
  have v2 : (pt b 2).val = 4 * b.val + 2 := rfl
  have v3 : (pt b 3).val = 4 * b.val + 3 := rfl
  have p0 := holds_point m c b 0 h d start (holds_start _ _ h d)
  rw [← stAt_A m c (pt b 0) (by omega) (by omega)] at p0
  have p1 := holds_point m c b 1 h d _ p0
  rw [show sweepAt m c (pt b 1) (stAt m c (pt b 0).val (pt b 0).isLt) = stAt m c (pt b 1).val (pt b 1).isLt
    from (stAt_B m c (pt b 1) (by omega) (by omega)).symm] at p1
  have p2 := holds_point m c b 2 h d _ p1
  rw [show sweepAt m c (pt b 2) (stAt m c (pt b 1).val (pt b 1).isLt) = stAt m c (pt b 2).val (pt b 2).isLt
    from (stAt_B m c (pt b 2) (by omega) (by omega)).symm] at p2
  have p3 := holds_point m c b 3 h d _ p2
  rw [show sweepAt m c (pt b 3) (stAt m c (pt b 2).val (pt b 2).isLt) = stAt m c (pt b 3).val (pt b 3).isLt
    from (stAt_C m c (pt b 3) (by omega) (by omega)).symm] at p3
  exact p3

/-! ## The arrays left -/

theorem y_apply (c : Dev nD) (b : Fin 8) (h : Fin 64) (g : Fin 4) (hg : g.val = h.val / 16) (d : Fin 128) :
    reg_main_v19_0 m c (ix3 b h d) = (args m c).out b h g d := by
  have v3 : (pt b 3).val = 4 * b.val + 3 := rfl
  have H := holds_batch m c b h d
  have hn : newScore (iblk m c 0 (pt b 3)) (iblk m c 1 (pt b 3)) (iblk m c 5 (pt b 3)) h g = (args m c).score b h g (Fin.last 8192) := by
    rw [Args.score_last, newScore]
    simp only [blk_x, blk_kn, blk_ks]
  rw [array_9, out9_C m c (pt b 3) (by omega) (by omega), finish_apply _ _ _ _ _ _ h g hg d, H.m, H.l, H.a, blk_vn, blk_vs]
  rw [← Args.val_last]
  exact Args.sweep_eq _ b h g hg d _ hn

theorem k_apply (c : Dev nD) (b : Fin 8) (g : Fin 4) (d : Fin 128) :
    reg_main_v19_1 m c (ix3 b g d) = code ((args m c).kn b g d) ((args m c).ks g) := by
  have v3 : (pt b 3).val = 4 * b.val + 3 := rfl
  rw [array_10, out10_C m c (pt b 3) (by omega) (by omega), code_k_apply, blk_kn, blk_ks]

theorem v_apply (c : Dev nD) (b : Fin 8) (g : Fin 4) (d : Fin 128) :
    reg_main_v19_2 m c (ix3 b g d) = code ((args m c).vn b g d) ((args m c).vs g) := by
  have v3 : (pt b 3).val = 4 * b.val + 3 := rfl
  rw [array_11, out11_C m c (pt b 3) (by omega) (by omega), code_v_apply, blk_vn, blk_vs]

end Cert.KernelIdeal.Body

end
-- ==== Proof.RefRegion.lean ====
module

public import proofs.«01_k».proof.Proof.Spec
public import proofs.«01_k».proof.Proof.Gen.ReferenceIdeal.Run
public import Idealize.ShloMosaic.Lib.Pipeline.ValueKit
public import Idealize.ShloMosaic.Lib.Pointwise.TacticCore
public import Idealize.ShloMosaic.Lib.Pointwise

/-! The reference's one gridless kernel: the codes and the dequantised keys and values, at an index. -/

@[expose] public section

set_option maxRecDepth 16384

noncomputable section

open Idealize.ShloMosaic Idealize.ShloMosaic.TcCoe Idealize.SL.Sem Idealize.ShloMosaic.StableHlo

namespace Cert.ReferenceIdeal.Body
open Cert.ReferenceIdeal Cert.ReferenceIdeal.Gen Cert.ReferenceIdeal.Value Cert.Softmax

section
variable {F : FTy → Type} [FloatOps F]
variable (x0 x1 : Vec F S8x1x4x128 .bf16) (x2 x3 : Vec F S8x8192x4x128 .fp8e4m3) (x4 x5 : Vec F S1x1x4x1 .f32)

theorem out_6 : out0_6 x0 x1 x2 x3 x4 x5 = k0_pay6 x4 x0 := by
  unfold_out out0_6
  frame_out
theorem out_7 : out0_7 x0 x1 x2 x3 x4 x5 = k0_pay7 x5 x1 := by
  unfold_out out0_7
  frame_out
theorem out_8 : out0_8 x0 x1 x2 x3 x4 x5 = k0_pay8 x4 x0 := by
  unfold_out out0_8
  frame_out
theorem out_9 : out0_9 x0 x1 x2 x3 x4 x5 = k0_pay1 (k0_pay5 x5) (k0_pay7 x5 x1) := by
  unfold_out out0_9
  frame_out
theorem out_10 : out0_10 x0 x1 x2 x3 x4 x5 = k0_pay2 (k0_pay4 x4) x2 := by
  unfold_out out0_10
  frame_out
theorem out_11 : out0_11 x0 x1 x2 x3 x4 x5 = k0_pay3 (k0_pay5 x5) x3 := by
  unfold_out out0_11
  frame_out
end

theorem pay6_apply (x4 : Vec Ideal S1x1x4x1 .f32) (x0 : Vec Ideal S8x1x4x128 .bf16) (b : Fin 8) (g : Fin 4) (d : Fin 128) :
    k0_pay6 x4 x0 (ix4 b (0 : Fin 1) g d) = code (x0 (ix4 b (0 : Fin 1) g d)) (x4 (ix4 (0 : Fin 1) (0 : Fin 1) g (0 : Fin 1))) := by
  pointwise [k0_pay6, k0_pay4]
  rfl
theorem pay7_apply (x4 : Vec Ideal S1x1x4x1 .f32) (x0 : Vec Ideal S8x1x4x128 .bf16) (b : Fin 8) (g : Fin 4) (d : Fin 128) :
    k0_pay7 x4 x0 (ix4 b (0 : Fin 1) g d) = code (x0 (ix4 b (0 : Fin 1) g d)) (x4 (ix4 (0 : Fin 1) (0 : Fin 1) g (0 : Fin 1))) := by
  pointwise [k0_pay7, k0_pay5]
  rfl

theorem pay1_apply (s : FVec Ideal S1x1x4x1 .f32) (x : FVec Ideal S8x1x4x128 .fp8e4m3) (b : Fin 8) (g : Fin 4) (d : Fin 128) :
    k0_pay1 s x (ix4 b (0 : Fin 1) g d) = (x (ix4 b (0 : Fin 1) g d) : EReal) * s (ix4 (0 : Fin 1) (0 : Fin 1) g (0 : Fin 1)) := by
  pointwise [k0_pay1]
theorem pay2_apply (s : FVec Ideal S1x1x4x1 .f32) (x : Vec Ideal S8x8192x4x128 .fp8e4m3) (b : Fin 8) (t : Fin 8192) (g : Fin 4) (d : Fin 128) :
    k0_pay2 s x (ix4 b t g d) = (x (ix4 b t g d) : EReal) * s (ix4 (0 : Fin 1) (0 : Fin 1) g (0 : Fin 1)) := by
  pointwise [k0_pay2]
theorem pay3_apply (s : FVec Ideal S1x1x4x1 .f32) (x : Vec Ideal S8x8192x4x128 .fp8e4m3) (b : Fin 8) (t : Fin 8192) (g : Fin 4) (d : Fin 128) :
    k0_pay3 s x (ix4 b t g d) = (x (ix4 b t g d) : EReal) * s (ix4 (0 : Fin 1) (0 : Fin 1) g (0 : Fin 1)) := by
  pointwise [k0_pay3]
theorem pay4_apply (s : Vec Ideal S1x1x4x1 .f32) (g : Fin 4) :
    k0_pay4 s (ix4 (0 : Fin 1) (0 : Fin 1) g (0 : Fin 1)) = s (ix4 (0 : Fin 1) (0 : Fin 1) g (0 : Fin 1)) := by
  pointwise [k0_pay4]
theorem pay5_apply (s : Vec Ideal S1x1x4x1 .f32) (g : Fin 4) :
    k0_pay5 s (ix4 (0 : Fin 1) (0 : Fin 1) g (0 : Fin 1)) = s (ix4 (0 : Fin 1) (0 : Fin 1) g (0 : Fin 1)) := by
  pointwise [k0_pay5]
/-- The new key dequantised: its code times the scale. -/
theorem pay8_apply (s : Vec Ideal S1x1x4x1 .f32) (x : Vec Ideal S8x1x4x128 .bf16) (b : Fin 8) (g : Fin 4) (d : Fin 128) :
    k0_pay8 s x (ix4 b (0 : Fin 1) g d)
      = code (x (ix4 b (0 : Fin 1) g d)) (s (ix4 (0 : Fin 1) (0 : Fin 1) g (0 : Fin 1))) * s (ix4 (0 : Fin 1) (0 : Fin 1) g (0 : Fin 1)) := by
  rw [← pay6_apply]
  pointwise [k0_pay8, k0_pay4]

variable (m : (ℓ : Loc nD τ sig) → Buf (Elt Ideal) ℓ)

theorem V_v0 (c : Dev nD) : V m c main_v0 = broadcastInDim S1x1x4x1 ![2] bcast_S4_S1x1x4x1_2 (m ((c : Thread nD τ).loc main_arg4)) := by
  unfold V V0
  simp only [hostOps0, List.flatten_cons, List.flatten_nil, List.append_nil, List.cons_append, List.nil_append]
  after_results <;> rfl
theorem V_v1 (c : Dev nD) : V m c main_v1 = broadcastInDim S1x1x4x1 ![2] bcast_S4_S1x1x4x1_2 (m ((c : Thread nD τ).loc main_arg6)) := by
  unfold V V0
  simp only [hostOps0, List.flatten_cons, List.flatten_nil, List.append_nil, List.cons_append, List.nil_append]
  after_results <;> rfl

theorem scale_apply (x : (⟨S4, .f32⟩ : BufTy).Contents (Elt Ideal)) (g : Fin 4) :
    (broadcastInDim S1x1x4x1 ![2] bcast_S4_S1x1x4x1_2 x : (⟨S1x1x4x1, .f32⟩ : BufTy).Contents (Elt Ideal)) (ix4 (0 : Fin 1) (0 : Fin 1) g (0 : Fin 1)) = x (ix1 g) := by
  pointwise []

/-- The region's one point. -/
def p0 : Fin cfg0.N := ⟨0, by decide⟩

/-! ## The blocks: whole arrays -/

theorem iblk_0 (c : Dev nD) (b : Fin 8) (t : Fin 1) (g : Fin 4) (d : Fin 128) :
    (iblk m c 0 p0 : Vec Ideal S8x1x4x128 .bf16) (ix4 b t g d) = V m c main_arg1 (ix4 b t g d) := by
  have e : win0_0.index p0 = ![0, 0, 0, 0] := by decide +kernel
  have e0 : win0_0.index p0 (0 : Fin 4) = 0 := congrFun e 0
  have e1 : win0_0.index p0 (1 : Fin 4) = 0 := congrFun e 1
  have e2 : win0_0.index p0 (2 : Fin 4) = 0 := congrFun e 2
  have e3 : win0_0.index p0 (3 : Fin 4) = 0 := congrFun e 3
  show V m c main_arg1 (((cfg0.win 0).blk p0).view.emb (ix4 b t g d)) = _
  refine congrArg (V m c main_arg1) (funext fun a => Fin.ext ?_)
  match a with
  | 0 => show win0_0.index p0 (0 : Fin 4) * 8 + 1 * b.val = b.val; omega
  | 1 => show win0_0.index p0 (1 : Fin 4) * 1 + 1 * t.val = t.val; omega
  | 2 => show win0_0.index p0 (2 : Fin 4) * 4 + 1 * g.val = g.val; omega
  | 3 => show win0_0.index p0 (3 : Fin 4) * 128 + 1 * d.val = d.val; omega

theorem iblk_1 (c : Dev nD) (b : Fin 8) (t : Fin 1) (g : Fin 4) (d : Fin 128) :
    (iblk m c 1 p0 : Vec Ideal S8x1x4x128 .bf16) (ix4 b t g d) = V m c main_arg2 (ix4 b t g d) := by
  have e : win0_1.index p0 = ![0, 0, 0, 0] := by decide +kernel
  have e0 : win0_1.index p0 (0 : Fin 4) = 0 := congrFun e 0
  have e1 : win0_1.index p0 (1 : Fin 4) = 0 := congrFun e 1
  have e2 : win0_1.index p0 (2 : Fin 4) = 0 := congrFun e 2
  have e3 : win0_1.index p0 (3 : Fin 4) = 0 := congrFun e 3
  show V m c main_arg2 (((cfg0.win 1).blk p0).view.emb (ix4 b t g d)) = _
  refine congrArg (V m c main_arg2) (funext fun a => Fin.ext ?_)
  match a with
  | 0 => show win0_1.index p0 (0 : Fin 4) * 8 + 1 * b.val = b.val; omega
  | 1 => show win0_1.index p0 (1 : Fin 4) * 1 + 1 * t.val = t.val; omega
  | 2 => show win0_1.index p0 (2 : Fin 4) * 4 + 1 * g.val = g.val; omega
  | 3 => show win0_1.index p0 (3 : Fin 4) * 128 + 1 * d.val = d.val; omega

theorem iblk_2 (c : Dev nD) (b : Fin 8) (t : Fin 8192) (g : Fin 4) (d : Fin 128) :
    (iblk m c 2 p0 : Vec Ideal S8x8192x4x128 .fp8e4m3) (ix4 b t g d) = V m c main_arg3 (ix4 b t g d) := by
  have e : win0_2.index p0 = ![0, 0, 0, 0] := by decide +kernel
  have e0 : win0_2.index p0 (0 : Fin 4) = 0 := congrFun e 0
  have e1 : win0_2.index p0 (1 : Fin 4) = 0 := congrFun e 1
  have e2 : win0_2.index p0 (2 : Fin 4) = 0 := congrFun e 2
  have e3 : win0_2.index p0 (3 : Fin 4) = 0 := congrFun e 3
  show V m c main_arg3 (((cfg0.win 2).blk p0).view.emb (ix4 b t g d)) = _
  refine congrArg (V m c main_arg3) (funext fun a => Fin.ext ?_)
  match a with
  | 0 => show win0_2.index p0 (0 : Fin 4) * 8 + 1 * b.val = b.val; omega
  | 1 => show win0_2.index p0 (1 : Fin 4) * 8192 + 1 * t.val = t.val; omega
  | 2 => show win0_2.index p0 (2 : Fin 4) * 4 + 1 * g.val = g.val; omega
  | 3 => show win0_2.index p0 (3 : Fin 4) * 128 + 1 * d.val = d.val; omega

theorem iblk_3 (c : Dev nD) (b : Fin 8) (t : Fin 8192) (g : Fin 4) (d : Fin 128) :
    (iblk m c 3 p0 : Vec Ideal S8x8192x4x128 .fp8e4m3) (ix4 b t g d) = V m c main_arg5 (ix4 b t g d) := by
  have e : win0_3.index p0 = ![0, 0, 0, 0] := by decide +kernel
  have e0 : win0_3.index p0 (0 : Fin 4) = 0 := congrFun e 0
  have e1 : win0_3.index p0 (1 : Fin 4) = 0 := congrFun e 1
  have e2 : win0_3.index p0 (2 : Fin 4) = 0 := congrFun e 2
  have e3 : win0_3.index p0 (3 : Fin 4) = 0 := congrFun e 3
  show V m c main_arg5 (((cfg0.win 3).blk p0).view.emb (ix4 b t g d)) = _
  refine congrArg (V m c main_arg5) (funext fun a => Fin.ext ?_)
  match a with
  | 0 => show win0_3.index p0 (0 : Fin 4) * 8 + 1 * b.val = b.val; omega
  | 1 => show win0_3.index p0 (1 : Fin 4) * 8192 + 1 * t.val = t.val; omega
  | 2 => show win0_3.index p0 (2 : Fin 4) * 4 + 1 * g.val = g.val; omega
  | 3 => show win0_3.index p0 (3 : Fin 4) * 128 + 1 * d.val = d.val; omega

theorem iblk_4 (c : Dev nD) (b : Fin 1) (t : Fin 1) (g : Fin 4) (d : Fin 1) :
    (iblk m c 4 p0 : Vec Ideal S1x1x4x1 .f32) (ix4 b t g d) = V m c main_v0 (ix4 b t g d) := by
  have e : win0_4.index p0 = ![0, 0, 0, 0] := by decide +kernel
  have e0 : win0_4.index p0 (0 : Fin 4) = 0 := congrFun e 0
  have e1 : win0_4.index p0 (1 : Fin 4) = 0 := congrFun e 1
  have e2 : win0_4.index p0 (2 : Fin 4) = 0 := congrFun e 2
  have e3 : win0_4.index p0 (3 : Fin 4) = 0 := congrFun e 3
  show V m c main_v0 (((cfg0.win 4).blk p0).view.emb (ix4 b t g d)) = _
  refine congrArg (V m c main_v0) (funext fun a => Fin.ext ?_)
  match a with
  | 0 => show win0_4.index p0 (0 : Fin 4) * 1 + 1 * b.val = b.val; omega
  | 1 => show win0_4.index p0 (1 : Fin 4) * 1 + 1 * t.val = t.val; omega
  | 2 => show win0_4.index p0 (2 : Fin 4) * 4 + 1 * g.val = g.val; omega
  | 3 => show win0_4.index p0 (3 : Fin 4) * 1 + 1 * d.val = d.val; omega

theorem iblk_5 (c : Dev nD) (b : Fin 1) (t : Fin 1) (g : Fin 4) (d : Fin 1) :
    (iblk m c 5 p0 : Vec Ideal S1x1x4x1 .f32) (ix4 b t g d) = V m c main_v1 (ix4 b t g d) := by
  have e : win0_5.index p0 = ![0, 0, 0, 0] := by decide +kernel
  have e0 : win0_5.index p0 (0 : Fin 4) = 0 := congrFun e 0
  have e1 : win0_5.index p0 (1 : Fin 4) = 0 := congrFun e 1
  have e2 : win0_5.index p0 (2 : Fin 4) = 0 := congrFun e 2
  have e3 : win0_5.index p0 (3 : Fin 4) = 0 := congrFun e 3
  show V m c main_v1 (((cfg0.win 5).blk p0).view.emb (ix4 b t g d)) = _
  refine congrArg (V m c main_v1) (funext fun a => Fin.ext ?_)
  match a with
  | 0 => show win0_5.index p0 (0 : Fin 4) * 1 + 1 * b.val = b.val; omega
  | 1 => show win0_5.index p0 (1 : Fin 4) * 1 + 1 * t.val = t.val; omega
  | 2 => show win0_5.index p0 (2 : Fin 4) * 4 + 1 * g.val = g.val; omega
  | 3 => show win0_5.index p0 (3 : Fin 4) * 1 + 1 * d.val = d.val; omega

/-- The arguments at coordinates. -/
def args (c : Dev nD) : Args where
  x b h d := (m ((c : Thread nD τ).loc main_arg0) : Vec Ideal S8x1x8192 .bf16) (ix3 b (0 : Fin 1) (⟨h.val * 128 + d.val, by omega⟩ : Fin 8192))
  kn b g d := (m ((c : Thread nD τ).loc main_arg1) : Vec Ideal S8x1x4x128 .bf16) (ix4 b (0 : Fin 1) g d)
  vn b g d := (m ((c : Thread nD τ).loc main_arg2) : Vec Ideal S8x1x4x128 .bf16) (ix4 b (0 : Fin 1) g d)
  kc b t g d := (m ((c : Thread nD τ).loc main_arg3) : Vec Ideal S8x8192x4x128 .fp8e4m3) (ix4 b t g d)
  vc b t g d := (m ((c : Thread nD τ).loc main_arg5) : Vec Ideal S8x8192x4x128 .fp8e4m3) (ix4 b t g d)
  ks g := (m ((c : Thread nD τ).loc main_arg4) : Vec Ideal S4 .f32) (ix1 g)
  vs g := (m ((c : Thread nD τ).loc main_arg6) : Vec Ideal S4 .f32) (ix1 g)

theorem blk_kn (c : Dev nD) (b : Fin 8) (g : Fin 4) (d : Fin 128) :
    (iblk m c 0 p0 : Vec Ideal S8x1x4x128 .bf16) (ix4 b (0 : Fin 1) g d) = (args m c).kn b g d := by
  rw [iblk_0, V_main_arg1]; rfl
theorem blk_vn (c : Dev nD) (b : Fin 8) (g : Fin 4) (d : Fin 128) :
    (iblk m c 1 p0 : Vec Ideal S8x1x4x128 .bf16) (ix4 b (0 : Fin 1) g d) = (args m c).vn b g d := by
  rw [iblk_1, V_main_arg2]; rfl
theorem blk_kc (c : Dev nD) (b : Fin 8) (t : Fin 8192) (g : Fin 4) (d : Fin 128) :
    (iblk m c 2 p0 : Vec Ideal S8x8192x4x128 .fp8e4m3) (ix4 b t g d) = (args m c).kc b t g d := by
  rw [iblk_2, V_main_arg3]; rfl
theorem blk_vc (c : Dev nD) (b : Fin 8) (t : Fin 8192) (g : Fin 4) (d : Fin 128) :
    (iblk m c 3 p0 : Vec Ideal S8x8192x4x128 .fp8e4m3) (ix4 b t g d) = (args m c).vc b t g d := by
  rw [iblk_3, V_main_arg5]; rfl
theorem blk_ks (c : Dev nD) (g : Fin 4) :
    (iblk m c 4 p0 : Vec Ideal S1x1x4x1 .f32) (ix4 (0 : Fin 1) (0 : Fin 1) g (0 : Fin 1)) = (args m c).ks g := by
  rw [iblk_4, V_v0, scale_apply]; rfl
theorem blk_vs (c : Dev nD) (g : Fin 4) :
    (iblk m c 5 p0 : Vec Ideal S1x1x4x1 .f32) (ix4 (0 : Fin 1) (0 : Fin 1) g (0 : Fin 1)) = (args m c).vs g := by
  rw [iblk_5, V_v1, scale_apply]; rfl

/-! ## The arrays left -/

theorem array_6 (c : Dev nD) (i : S8x1x4x128.Idx) : reg_main_v2_0 m c i
    = out0_6 (iblk m c 0 p0) (iblk m c 1 p0) (iblk m c 2 p0) (iblk m c 3 p0) (iblk m c 4 p0) (iblk m c 5 p0) i := by
  have hw : (cfg0.win 6).WholeAt p0 := by decide +kernel
  have h := (dats m 0 c).arrAt_emb_eq_after_last 6 p0 hw i
  rw [after0_6] at h
  unfold reg_main_v2_0
  generalize out0_6 (iblk m c 0 p0) (iblk m c 1 p0) (iblk m c 2 p0) (iblk m c 3 p0) (iblk m c 4 p0) (iblk m c 5 p0) = G at h ⊢
  exact h

theorem array_7 (c : Dev nD) (i : S8x1x4x128.Idx) : reg_main_v2_1 m c i
    = out0_7 (iblk m c 0 p0) (iblk m c 1 p0) (iblk m c 2 p0) (iblk m c 3 p0) (iblk m c 4 p0) (iblk m c 5 p0) i := by
  have hw : (cfg0.win 7).WholeAt p0 := by decide +kernel
  have h := (dats m 0 c).arrAt_emb_eq_after_last 7 p0 hw i
  rw [after0_7] at h
  unfold reg_main_v2_1
  generalize out0_7 (iblk m c 0 p0) (iblk m c 1 p0) (iblk m c 2 p0) (iblk m c 3 p0) (iblk m c 4 p0) (iblk m c 5 p0) = G at h ⊢
  exact h

theorem array_8 (c : Dev nD) (i : S8x1x4x128.Idx) : reg_main_v2_2 m c i
    = out0_8 (iblk m c 0 p0) (iblk m c 1 p0) (iblk m c 2 p0) (iblk m c 3 p0) (iblk m c 4 p0) (iblk m c 5 p0) i := by
  have hw : (cfg0.win 8).WholeAt p0 := by decide +kernel
  have h := (dats m 0 c).arrAt_emb_eq_after_last 8 p0 hw i
  rw [after0_8] at h
  unfold reg_main_v2_2
  generalize out0_8 (iblk m c 0 p0) (iblk m c 1 p0) (iblk m c 2 p0) (iblk m c 3 p0) (iblk m c 4 p0) (iblk m c 5 p0) = G at h ⊢
  exact h

theorem array_9 (c : Dev nD) (i : S8x1x4x128.Idx) : reg_main_v2_3 m c i
    = out0_9 (iblk m c 0 p0) (iblk m c 1 p0) (iblk m c 2 p0) (iblk m c 3 p0) (iblk m c 4 p0) (iblk m c 5 p0) i := by
  have hw : (cfg0.win 9).WholeAt p0 := by decide +kernel
  have h := (dats m 0 c).arrAt_emb_eq_after_last 9 p0 hw i
  rw [after0_9] at h
  unfold reg_main_v2_3
  generalize out0_9 (iblk m c 0 p0) (iblk m c 1 p0) (iblk m c 2 p0) (iblk m c 3 p0) (iblk m c 4 p0) (iblk m c 5 p0) = G at h ⊢
  exact h

theorem array_10 (c : Dev nD) (i : S8x8192x4x128.Idx) : reg_main_v2_4 m c i
    = out0_10 (iblk m c 0 p0) (iblk m c 1 p0) (iblk m c 2 p0) (iblk m c 3 p0) (iblk m c 4 p0) (iblk m c 5 p0) i := by
  have hw : (cfg0.win 10).WholeAt p0 := by decide +kernel
  have h := (dats m 0 c).arrAt_emb_eq_after_last 10 p0 hw i
  rw [after0_10] at h
  unfold reg_main_v2_4
  generalize out0_10 (iblk m c 0 p0) (iblk m c 1 p0) (iblk m c 2 p0) (iblk m c 3 p0) (iblk m c 4 p0) (iblk m c 5 p0) = G at h ⊢
  exact h

theorem array_11 (c : Dev nD) (i : S8x8192x4x128.Idx) : reg_main_v2_5 m c i
    = out0_11 (iblk m c 0 p0) (iblk m c 1 p0) (iblk m c 2 p0) (iblk m c 3 p0) (iblk m c 4 p0) (iblk m c 5 p0) i := by
  have hw : (cfg0.win 11).WholeAt p0 := by decide +kernel
  have h := (dats m 0 c).arrAt_emb_eq_after_last 11 p0 hw i
  rw [after0_11] at h
  unfold reg_main_v2_5
  generalize out0_11 (iblk m c 0 p0) (iblk m c 1 p0) (iblk m c 2 p0) (iblk m c 3 p0) (iblk m c 4 p0) (iblk m c 5 p0) = G at h ⊢
  exact h

/-- The new key's code. -/
theorem k_apply (c : Dev nD) (b : Fin 8) (g : Fin 4) (d : Fin 128) :
    reg_main_v2_0 m c (ix4 b (0 : Fin 1) g d) = code ((args m c).kn b g d) ((args m c).ks g) := by
  rw [array_6, out_6, pay6_apply, blk_kn, blk_ks]
/-- The new value's code. -/
theorem v_apply (c : Dev nD) (b : Fin 8) (g : Fin 4) (d : Fin 128) :
    reg_main_v2_1 m c (ix4 b (0 : Fin 1) g d) = code ((args m c).vn b g d) ((args m c).vs g) := by
  rw [array_7, out_7, pay7_apply, blk_vn, blk_vs]
/-- The new key, dequantised. -/
theorem kn_apply (c : Dev nD) (b : Fin 8) (g : Fin 4) (d : Fin 128) :
    reg_main_v2_2 m c (ix4 b (0 : Fin 1) g d) = code ((args m c).kn b g d) ((args m c).ks g) * (args m c).ks g := by
  rw [array_8, out_8, pay8_apply, blk_kn, blk_ks]
/-- The new value, dequantised. -/
theorem vn_apply (c : Dev nD) (b : Fin 8) (g : Fin 4) (d : Fin 128) :
    reg_main_v2_3 m c (ix4 b (0 : Fin 1) g d) = code ((args m c).vn b g d) ((args m c).vs g) * (args m c).vs g := by
  rw [array_9, out_9, pay1_apply, pay7_apply, pay5_apply, blk_vn, blk_vs]
/-- The cached keys, dequantised. -/
theorem kc_apply (c : Dev nD) (b : Fin 8) (t : Fin 8192) (g : Fin 4) (d : Fin 128) :
    reg_main_v2_4 m c (ix4 b t g d) = (args m c).kc b t g d * (args m c).ks g := by
  rw [array_10, out_10, pay2_apply, pay4_apply, blk_kc, blk_ks]
/-- The cached values, dequantised. -/
theorem vc_apply (c : Dev nD) (b : Fin 8) (t : Fin 8192) (g : Fin 4) (d : Fin 128) :
    reg_main_v2_5 m c (ix4 b t g d) = (args m c).vc b t g d * (args m c).vs g := by
  rw [array_11, out_11, pay3_apply, pay5_apply, blk_vc, blk_vs]

end Cert.ReferenceIdeal.Body

end
-- ==== Proof.RefValue.lean ====
module

public import proofs.«01_k».proof.Proof.RefRegion
public import proofs.«01_k».proof.Proof.Gen.ReferenceIdeal.Read
public import Idealize.ShloMosaic.Lib.KernelVsHost

/-! The reference's attention at an index: its host lines one after another, and the result `y` as the formula `Args.out`. -/

@[expose] public section

set_option maxRecDepth 16384

noncomputable section

open Idealize.ShloMosaic Idealize.ShloMosaic.TcCoe Idealize.SL.Sem Idealize.ShloMosaic.StableHlo
open scoped BigOperators

namespace Cert.ReferenceIdeal.Body
open Cert.ReferenceIdeal Cert.ReferenceIdeal.Gen Cert.ReferenceIdeal.Value Cert.ReferenceIdeal.Read Cert.Softmax

section
variable (x0 : (⟨S8x1x8192, .bf16⟩ : BufTy).Contents (Elt Ideal)) (r2 r3 : (⟨S8x1x4x128, .bf16⟩ : BufTy).Contents (Elt Ideal))
  (r4 r5 : (⟨S8x8192x4x128, .bf16⟩ : BufTy).Contents (Elt Ideal))

/-- The keys: the cache's, then the new token's. -/
theorem v3_apply (b : Fin 8) (t : Fin 8193) (g : Fin 4) (d : Fin 128) :
    (val_main_v3 r2 r4 (ix4 b t g d) : EReal) = if ht : t.val < 8192 then r4 (ix4 b (⟨t.val, ht⟩ : Fin 8192) g d) else r2 (ix4 b (0 : Fin 1) g d) := by
  pointwise [val_main_v3]
  split
  · rfl
  · rename_i h
    exact congrArg (fun z : Fin 1 => r2 (ix4 b z g d)) (Subsingleton.elim _ _)

/-- The values, likewise. -/
theorem v4_apply (b : Fin 8) (t : Fin 8193) (g : Fin 4) (d : Fin 128) :
    (val_main_v4 r3 r5 (ix4 b t g d) : EReal) = if ht : t.val < 8192 then r5 (ix4 b (⟨t.val, ht⟩ : Fin 8192) g d) else r3 (ix4 b (0 : Fin 1) g d) := by
  pointwise [val_main_v4]
  split
  · rfl
  · rename_i h
    exact congrArg (fun z : Fin 1 => r3 (ix4 b z g d)) (Subsingleton.elim _ _)

/-- The queries, by kv head and head within the group. -/
theorem v5_apply (b : Fin 8) (g : Fin 4) (j : Fin 16) (d : Fin 128) (e : Fin 8192) (he : e.val = g.val * 2048 + j.val * 128 + d.val) :
    val_main_v5 x0 (ix4 b g j d) = x0 (ix3 b (0 : Fin 1) e) := by
  pointwise [val_main_v5]
  exact congrArg (fun z => x0 (ix3 b (0 : Fin 1) z)) (Fin.ext he.symm)

/-- The scores. -/
theorem v8_apply (b : Fin 8) (g : Fin 4) (j : Fin 16) (t : Fin 8193) :
    val_main_v8 x0 r2 r4 (ix4 b g j t) = (∑ d, (val_main_v5 x0 (ix4 b g j d) : EReal) * val_main_v3 r2 r4 (ix4 b t g d)) * scale := by
  pointwise [val_main_v8, val_main_v6, val_main_v7, val_main_cst]
  rfl

/-- A head's largest score. -/
theorem v9_apply (b : Fin 8) (g : Fin 4) (j : Fin 16) :
    val_main_v9 x0 r2 r4 (ix3 b g j) = Finset.univ.sup fun t => (val_main_v8 x0 r2 r4 (ix4 b g j t) : EReal) := by
  pointwise [val_main_v9, val_main_cst_0]
  exact fold_max _ _

/-- The weights. -/
theorem v13_apply (b : Fin 8) (g : Fin 4) (j : Fin 16) (t : Fin 8193) :
    val_main_v13 x0 r2 r4 (ix4 b g j t) = Ideal.exp ((val_main_v8 x0 r2 r4 (ix4 b g j t) : EReal) - val_main_v9 x0 r2 r4 (ix3 b g j)) := by
  pointwise [val_main_v13, val_main_v12, val_main_v11, val_main_v10]

/-- The weighted values over the weights' sum. -/
theorem v21_apply (b : Fin 8) (e : Fin 8192) :
    val_main_v21 x0 r2 r3 r4 r5 (ix3 b (0 : Fin 1) e) = Ideal.div
      (∑ t, (val_main_v13 x0 r2 r4 (ix4 b (⟨e.val / 2048, by omega⟩ : Fin 4) (⟨e.val / 128 % 16, by omega⟩ : Fin 16) t) : EReal)
        * val_main_v4 r3 r5 (ix4 b t (⟨e.val / 2048, by omega⟩ : Fin 4) (⟨e.val % 128, by omega⟩ : Fin 128)))
      (∑ t, (val_main_v13 x0 r2 r4 (ix4 b (⟨e.val / 2048, by omega⟩ : Fin 4) (⟨e.val / 128 % 16, by omega⟩ : Fin 16) t) : EReal)) := by
  pointwise [val_main_v21, val_main_v20, val_main_v19, val_main_v18, val_main_v17, val_main_v16, val_main_v15, val_main_v14, val_main_cst_1]

end

variable (m : (ℓ : Loc nD τ sig) → Buf (Elt Ideal) ℓ)

/-- The reference's result `y`, over what its region leaves. -/
def y (c : Dev nD) : (⟨S8x1x8192, .bf16⟩ : BufTy).Contents (Elt Ideal) :=
  val_main_v21 (m ((c : Thread nD τ).loc main_arg0)) (reg_main_v2_2 m c) (reg_main_v2_3 m c) (reg_main_v2_4 m c) (reg_main_v2_5 m c)

theorem key_eq (c : Dev nD) (b : Fin 8) (t : Fin 8193) (g : Fin 4) (d : Fin 128) :
    val_main_v3 (reg_main_v2_2 m c) (reg_main_v2_4 m c) (ix4 b t g d) = (args m c).key b g t d := by
  rw [v3_apply, Args.key]
  split
  · exact kc_apply m c b _ g d
  · exact kn_apply m c b g d

theorem val_eq (c : Dev nD) (b : Fin 8) (t : Fin 8193) (g : Fin 4) (d : Fin 128) :
    val_main_v4 (reg_main_v2_3 m c) (reg_main_v2_5 m c) (ix4 b t g d) = (args m c).val b g d t := by
  rw [v4_apply, Args.val]
  split
  · exact vc_apply m c b _ g d
  · exact vn_apply m c b g d

theorem score_eq (c : Dev nD) (b : Fin 8) (h : Fin 64) (g : Fin 4) (j : Fin 16) (hh : h.val = g.val * 16 + j.val) (t : Fin 8193) :
    val_main_v8 (m ((c : Thread nD τ).loc main_arg0)) (reg_main_v2_2 m c) (reg_main_v2_4 m c) (ix4 b g j t) = (args m c).score b h g t := by
  rw [v8_apply, Args.score]
  refine congrArg (· * scale) (Finset.sum_congr rfl fun d _ => ?_)
  rw [key_eq, v5_apply _ b g j d (⟨h.val * 128 + d.val, by omega⟩ : Fin 8192) (by show h.val * 128 + d.val = _; omega)]
  rfl

/-- `y` at an index is `Args.out`. -/
theorem y_apply (c : Dev nD) (b : Fin 8) (e : Fin 8192) :
    y m c (ix3 b (0 : Fin 1) e)
      = (args m c).out b (⟨e.val / 128, by omega⟩ : Fin 64) (⟨e.val / 2048, by omega⟩ : Fin 4) (⟨e.val % 128, by omega⟩ : Fin 128) := by
  have hs := score_eq m c b (⟨e.val / 128, by omega⟩ : Fin 64) (⟨e.val / 2048, by omega⟩ : Fin 4) (⟨e.val / 128 % 16, by omega⟩ : Fin 16)
    (by show e.val / 128 = e.val / 2048 * 16 + e.val / 128 % 16; omega)
  unfold y
  rw [v21_apply, Args.out]
  simp only [v13_apply, v9_apply, hs, val_eq]

end Cert.ReferenceIdeal.Body

end
-- ==== Proof.Equation.lean ====
module

public import proofs.«01_k».proof.Defs
public import proofs.«01_k».proof.Proof.KernelValue
public import proofs.«01_k».proof.Proof.RefValue
public import proofs.«01_k».proof.Proof.Gen.KernelIdeal.Run
public import proofs.«01_k».proof.Proof.Gen.ReferenceIdeal.Run

/-! The two programs' results are equal, at arguments that are equal: both are the same formulas of `Spec`. -/

@[expose] public section

set_option maxRecDepth 16384

noncomputable section

open Idealize.ShloMosaic Idealize.ShloMosaic.TcCoe Idealize.SL.Sem Idealize.ShloMosaic.StableHlo
open Cert.Softmax

namespace Cert.KernelIdeal.Body
open Cert.KernelIdeal Cert.KernelIdeal.Gen Cert.KernelIdeal.Value

/-- The last reshape of `y` at an index. -/
theorem flat_y (r : Vec Ideal S8x64x128 .bf16) (b : Fin 8) (e : Fin 8192) :
    (shapeCast _ r shapeCasts_S8x64x128_S8x1x8192 : Vec Ideal S8x1x8192 .bf16) (ix3 b (0 : Fin 1) e)
      = r (ix3 b (⟨e.val / 128, by omega⟩ : Fin 64) (⟨e.val % 128, by omega⟩ : Fin 128)) := by
  pointwise []

/-- The last reshape of a token's codes at an index. -/
theorem flat_kv (r : Vec Ideal S8x4x128 .fp8e4m3) (b : Fin 8) (g : Fin 4) (d : Fin 128) :
    (shapeCast _ r shapeCasts_S8x4x128_S8x1x4x128 : Vec Ideal S8x1x4x128 .fp8e4m3) (ix4 b (0 : Fin 1) g d) = r (ix3 b g d) := by
  pointwise []

variable (m : (ℓ : Loc nD τ sig) → Buf (Elt Ideal) ℓ)

theorem y_flat (c : Dev nD) (b : Fin 8) (e : Fin 8192) :
    (shapeCast _ (reg_main_v19_0 m c) shapeCasts_S8x64x128_S8x1x8192 : Vec Ideal S8x1x8192 .bf16) (ix3 b (0 : Fin 1) e)
      = (args m c).out b (⟨e.val / 128, by omega⟩ : Fin 64) (⟨e.val / 2048, by omega⟩ : Fin 4) (⟨e.val % 128, by omega⟩ : Fin 128) :=
  (flat_y _ b e).trans (y_apply m c b _ _ (show e.val / 2048 = e.val / 128 / 16 by omega) _)

theorem k_flat (c : Dev nD) (b : Fin 8) (g : Fin 4) (d : Fin 128) :
    (shapeCast _ (reg_main_v19_1 m c) shapeCasts_S8x4x128_S8x1x4x128 : Vec Ideal S8x1x4x128 .fp8e4m3) (ix4 b (0 : Fin 1) g d)
      = code ((args m c).kn b g d) ((args m c).ks g) :=
  (flat_kv _ b g d).trans (k_apply m c b g d)

theorem v_flat (c : Dev nD) (b : Fin 8) (g : Fin 4) (d : Fin 128) :
    (shapeCast _ (reg_main_v19_2 m c) shapeCasts_S8x4x128_S8x1x4x128 : Vec Ideal S8x1x4x128 .fp8e4m3) (ix4 b (0 : Fin 1) g d)
      = code ((args m c).vn b g d) ((args m c).vs g) :=
  (flat_kv _ b g d).trans (v_apply m c b g d)

end Cert.KernelIdeal.Body

namespace Cert.Equation

/-- Two arrays of one token a batch are equal when they agree at every index. -/
theorem ext3 {α : Type} (p q : Cert.KernelIdeal.S8x1x8192.Idx → α) (h : ∀ (b : Fin 8) (e : Fin 8192), p (ix3 b (0 : Fin 1) e) = q (ix3 b (0 : Fin 1) e)) : p = q := by
  funext i
  obtain ⟨b, z, e, rfl⟩ : ∃ (b : Fin 8) (z : Fin 1) (e : Fin 8192), i = ix3 b z e := ⟨i 0, i 1, i 2, Idealize.ShloMosaic.eq_ix3 i⟩
  obtain rfl : z = 0 := Subsingleton.elim _ _
  exact h b e

theorem ext4 {α : Type} (p q : Cert.KernelIdeal.S8x1x4x128.Idx → α)
    (h : ∀ (b : Fin 8) (g : Fin 4) (d : Fin 128), p (ix4 b (0 : Fin 1) g d) = q (ix4 b (0 : Fin 1) g d)) : p = q := by
  funext i
  obtain ⟨b, z, g, d, rfl⟩ : ∃ (b : Fin 8) (z : Fin 1) (g : Fin 4) (d : Fin 128), i = ix4 b z g d := ⟨i 0, i 1, i 2, i 3, Idealize.ShloMosaic.eq_ix4 i⟩
  obtain rfl : z = 0 := Subsingleton.elim _ _
  exact h b g d

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hA : Cert.ReferenceIdeal.Body.args m' c = Cert.KernelIdeal.Body.args m c)
include hA

theorem y_eq : Cert.ReferenceIdeal.Body.y m' c
    = (shapeCast _ (Cert.KernelIdeal.Value.reg_main_v19_0 m c) Cert.KernelIdeal.Gen.facts.shapeCasts_S8x64x128_S8x1x8192 : Vec Ideal Cert.KernelIdeal.S8x1x8192 .bf16) :=
  ext3 _ _ fun b e => (Cert.ReferenceIdeal.Body.y_apply m' c b e).trans
    ((congrArg (fun A : Args => A.out b _ _ _) hA).trans (Cert.KernelIdeal.Body.y_flat m c b e).symm)

theorem k_eq : Cert.ReferenceIdeal.Value.reg_main_v2_0 m' c
    = (shapeCast _ (Cert.KernelIdeal.Value.reg_main_v19_1 m c) Cert.KernelIdeal.Gen.facts.shapeCasts_S8x4x128_S8x1x4x128 : Vec Ideal Cert.KernelIdeal.S8x1x4x128 .fp8e4m3) :=
  ext4 _ _ fun b g d => (Cert.ReferenceIdeal.Body.k_apply m' c b g d).trans
    ((congrArg (fun A : Args => code (A.kn b g d) (A.ks g)) hA).trans (Cert.KernelIdeal.Body.k_flat m c b g d).symm)

theorem v_eq : Cert.ReferenceIdeal.Value.reg_main_v2_1 m' c
    = (shapeCast _ (Cert.KernelIdeal.Value.reg_main_v19_2 m c) Cert.KernelIdeal.Gen.facts.shapeCasts_S8x4x128_S8x1x4x128 : Vec Ideal Cert.KernelIdeal.S8x1x4x128 .fp8e4m3) :=
  ext4 _ _ fun b g d => (Cert.ReferenceIdeal.Body.v_apply m' c b g d).trans
    ((congrArg (fun A : Args => code (A.vn b g d) (A.vs g)) hA).trans (Cert.KernelIdeal.Body.v_flat m c b g d).symm)

end

/-- Equal argument arrays are equal arguments of the formulas. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Body.args m' c = Cert.KernelIdeal.Body.args m c := by
  unfold Cert.ReferenceIdeal.Body.args Cert.KernelIdeal.Body.args
  exact Args.mk.injEq .. |>.mpr ⟨funext fun b => funext fun h => funext fun d => congrFun h0 _, funext fun b => funext fun g => funext fun d => congrFun h1 _,
    funext fun b => funext fun g => funext fun d => congrFun h2 _, funext fun b => funext fun t => funext fun g => funext fun d => congrFun h3 _,
    funext fun b => funext fun t => funext fun g => funext fun d => congrFun h5 _, funext fun g => congrFun h4 _, funext fun g => congrFun h6 _⟩

/-- The algebraic claim. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => _, fun c => _, fun c => _, fun c => _, fun c => _, Cert.KernelIdeal.Value.run m g,
    (θ_run _ _ _).mono (fun r hr c => ?_) (Cert.ReferenceIdeal.Value.run m' g')⟩
  obtain ⟨r0, r1, r2, r3, r4, rest⟩ := hr c
  obtain ⟨h0, h1, h2, h3, h4, h5, h6⟩ := hargs c
  have hA := args_eq m m' c h0 h1 h2 h3 h4 h5 h6
  exact ⟨r0.trans (y_eq m m' c hA), r1.trans (k_eq m m' c hA), r2.trans h4, r3.trans (v_eq m m' c hA), r4.trans h6, rest⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Run
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Equation.algebraic⟩

end Cert.Proof

end
